-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pack.Statement Cert.KernelIdeal.S4096x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x16384 : Shape := ⟨2, ![2048, 16384]⟩
abbrev S512x256 : Shape := ⟨2, ![512, 256]⟩
abbrev S256x128 : Shape := ⟨2, ![256, 128]⟩
abbrev S64x16384 : Shape := ⟨2, ![64, 16384]⟩
abbrev S64x256 : Shape := ⟨2, ![64, 256]⟩
abbrev S4096x256 : Shape := ⟨2, ![4096, 256]⟩
abbrev S4096x512 : Shape := ⟨2, ![4096, 512]⟩
abbrev S4096x128 : Shape := ⟨2, ![4096, 128]⟩
abbrev S3968x256 : Shape := ⟨2, ![3968, 256]⟩

abbrev nBuf : Space → Nat
  | .hbm => 6
  | .vmem => 9
  | .smem => 0
  | _ => 0

abbrev bufTy : (tb : Table) → Fin (tcTables nBuf tb) → BufTy
  | .hbm, ⟨0, _⟩ => ⟨S2048x16384, .f32⟩
  | .hbm, ⟨1, _⟩ => ⟨S512x256, .f32⟩
  | .hbm, ⟨2, _⟩ => ⟨S256x128, .f32⟩
  | .hbm, ⟨3, _⟩ => ⟨S256x128, .f32⟩
  | .hbm, ⟨4, _⟩ => ⟨S2048x16384, .f32⟩
  | .hbm, ⟨5, _⟩ => ⟨S2048x16384, .f32⟩
  | .local _ .vmem, ⟨0, _⟩ => ⟨S64x16384, .f32⟩
  | .local _ .vmem, ⟨1, _⟩ => ⟨S64x16384, .f32⟩
  | .local _ .vmem, ⟨2, _⟩ => ⟨S512x256, .f32⟩
  | .local _ .vmem, ⟨3, _⟩ => ⟨S256x128, .f32⟩
  | .local _ .vmem, ⟨4, _⟩ => ⟨S256x128, .f32⟩
  | .local _ .vmem, ⟨5, _⟩ => ⟨S64x16384, .f32⟩
  | .local _ .vmem, ⟨6, _⟩ => ⟨S64x16384, .f32⟩
  | .local _ .vmem, ⟨7, _⟩ => ⟨S64x16384, .f32⟩
  | .local _ .vmem, ⟨8, _⟩ => ⟨S64x16384, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_cst_1 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S2048x16384 : Shape := ⟨2, ![2048, 16384]⟩
abbrev S_ : Shape := ⟨0, ![]⟩
abbrev S2048x16353 : Shape := ⟨2, ![2048, 16353]⟩

abbrev nBuf : Space → Nat
  | .hbm => 162
  | .vmem => 0
  | .smem => 0
  | _ => 0

abbrev hbmTy0_0 (i : Nat) : BufTy := match i % 128 with
  | 0 => ⟨S2048x16384, .f32⟩
  | 1 => ⟨S_, .f32⟩
  | 2 => ⟨S2048x16353, .f32⟩
  | 3 => ⟨S_, .f32⟩
  | 4 => ⟨S2048x16353, .f32⟩
  | 5 => ⟨S2048x16353, .f32⟩
  | 6 => ⟨S2048x16353, .f32⟩
  | 7 => ⟨S2048x16353, .f32⟩
  | 8 => ⟨S2048x16353, .f32⟩
  | 9 => ⟨S2048x16353, .f32⟩
  | 10 => ⟨S2048x16353, .f32⟩
  | 11 => ⟨S2048x16353, .f32⟩
  | 12 => ⟨S2048x16353, .f32⟩
  | 13 => ⟨S2048x16353, .f32⟩
  | 14 => ⟨S2048x16353, .f32⟩
  | 15 => ⟨S2048x16353, .f32⟩
  | 16 => ⟨S2048x16353, .f32⟩
  | 17 => ⟨S2048x16353, .f32⟩
  | 18 => ⟨S2048x16353, .f32⟩
  | 19 => ⟨S2048x16353, .f32⟩
  | 20 => ⟨S2048x16353, .f32⟩
  | 21 => ⟨S2048x16353, .f32⟩
  | 22 => ⟨S2048x16353, .f32⟩
  | 23 => ⟨S2048x16353, .f32⟩
  | 24 => ⟨S2048x16353, .f32⟩
  | 25 => ⟨S2048x16353, .f32⟩
  | 26 => ⟨S2048x16353, .f32⟩
  | 27 => ⟨S2048x16353, .f32⟩
  | 28 => ⟨S2048x16353, .f32⟩
  | 29 => ⟨S2048x16353, .f32⟩
  | 30 => ⟨S2048x16353, .f32⟩
  | 31 => ⟨S2048x16353, .f32⟩
  | 32 => ⟨S2048x16353, .f32⟩
  | 33 => ⟨S2048x16353, .f32⟩
  | 34 => ⟨S2048x16353, .f32⟩
  | 35 => ⟨S2048x16353, .f32⟩
  | 36 => ⟨S2048x16353, .f32⟩
  | 37 => ⟨S2048x16353, .f32⟩
  | 38 => ⟨S2048x16353, .f32⟩
  | 39 => ⟨S2048x16353, .f32⟩
  | 40 => ⟨S2048x16353, .f32⟩
  | 41 => ⟨S2048x16353, .f32⟩
  | 42 => ⟨S2048x16353, .f32⟩
  | 43 => ⟨S2048x16353, .f32⟩
  | 44 => ⟨S2048x16353, .f32⟩
  | 45 => ⟨S2048x16353, .f32⟩
  | 46 => ⟨S2048x16353, .f32⟩
  | 47 => ⟨S2048x16353, .f32⟩
  | 48 => ⟨S2048x16353, .f32⟩
  | 49 => ⟨S2048x16353, .f32⟩
  | 50 => ⟨S2048x16353, .f32⟩
  | 51 => ⟨S2048x16353, .f32⟩
  | 52 => ⟨S2048x16353, .f32⟩
  | 53 => ⟨S2048x16353, .f32⟩
  | 54 => ⟨S2048x16353, .f32⟩
  | 55 => ⟨S2048x16353, .f32⟩
  | 56 => ⟨S2048x16353, .f32⟩
  | 57 => ⟨S2048x16353, .f32⟩
  | 58 => ⟨S2048x16353, .f32⟩
  | 59 => ⟨S2048x16353, .f32⟩
  | 60 => ⟨S2048x16353, .f32⟩
  | 61 => ⟨S2048x16353, .f32⟩
  | 62 => ⟨S2048x16353, .f32⟩
  | 63 => ⟨S2048x16353, .f32⟩
  | 64 => ⟨S2048x16353, .f32⟩
  | 65 => ⟨S2048x16353, .f32⟩
  | 66 => ⟨S2048x16353, .f32⟩
  | 67 => ⟨S2048x16353, .f32⟩
  | 68 => ⟨S2048x16353, .f32⟩
  | 69 => ⟨S2048x16353, .f32⟩
  | 70 => ⟨S2048x16353, .f32⟩
  | 71 => ⟨S2048x16353, .f32⟩
  | 72 => ⟨S2048x16353, .f32⟩
  | 73 => ⟨S2048x16353, .f32⟩
  | 74 => ⟨S2048x16353, .f32⟩
  | 75 => ⟨S2048x16353, .f32⟩
  | 76 => ⟨S2048x16353, .f32⟩
  | 77 => ⟨S2048x16353, .f32⟩
  | 78 => ⟨S2048x16353, .f32⟩
  | 79 => ⟨S2048x16353, .f32⟩
  | 80 => ⟨S2048x16353, .f32⟩
  | 81 => ⟨S2048x16353, .f32⟩
  | 82 => ⟨S2048x16353, .f32⟩
  | 83 => ⟨S2048x16353, .f32⟩
  | 84 => ⟨S2048x16353, .f32⟩
  | 85 => ⟨S2048x16353, .f32⟩
  | 86 => ⟨S2048x16353, .f32⟩
  | 87 => ⟨S2048x16353, .f32⟩
  | 88 => ⟨S2048x16353, .f32⟩
  | 89 => ⟨S2048x16353, .f32⟩
  | 90 => ⟨S2048x16353, .f32⟩
  | 91 => ⟨S2048x16353, .f32⟩
  | 92 => ⟨S2048x16353, .f32⟩
  | 93 => ⟨S2048x16353, .f32⟩
  | 94 => ⟨S2048x16353, .f32⟩
  | 95 => ⟨S2048x16353, .f32⟩
  | 96 => ⟨S2048x16353, .f32⟩
  | 97 => ⟨S2048x16353, .f32⟩
  | 98 => ⟨S2048x16353, .f32⟩
  | 99 => ⟨S2048x16353, .f32⟩
  | 100 => ⟨S2048x16353, .f32⟩
  | 101 => ⟨S2048x16353, .f32⟩
  | 102 => ⟨S2048x16353, .f32⟩
  | 103 => ⟨S2048x16353, .f32⟩
  | 104 => ⟨S2048x16353, .f32⟩
  | 105 => ⟨S2048x16353, .f32⟩
  | 106 => ⟨S2048x16353, .f32⟩
  | 107 => ⟨S2048x16353, .f32⟩
  | 108 => ⟨S2048x16353, .f32⟩
  | 109 => ⟨S2048x16353, .f32⟩
  | 110 => ⟨S2048x16353, .f32⟩
  | 111 => ⟨S2048x16353, .f32⟩
  | 112 => ⟨S2048x16353, .f32⟩
  | 113 => ⟨S2048x16353, .f32⟩
  | 114 => ⟨S2048x16353, .f32⟩
  | 115 => ⟨S2048x16353, .f32⟩
  | 116 => ⟨S2048x16353, .f32⟩
  | 117 => ⟨S2048x16353, .f32⟩
  | 118 => ⟨S2048x16353, .f32⟩
  | 119 => ⟨S2048x16353, .f32⟩
  | 120 => ⟨S2048x16353, .f32⟩
  | 121 => ⟨S2048x16353, .f32⟩
  | 122 => ⟨S2048x16353, .f32⟩
  | 123 => ⟨S2048x16353, .f32⟩
  | 124 => ⟨S2048x16353, .f32⟩
  | 125 => ⟨S2048x16353, .f32⟩
  | 126 => ⟨S2048x16353, .f32⟩
  | 127 => ⟨S2048x16353, .f32⟩
  | _ => ⟨S2048x16384, .f32⟩

abbrev hbmTy0_1 (i : Nat) : BufTy := match i % 128 with
  | 0 => ⟨S2048x16353, .f32⟩
  | 1 => ⟨S2048x16353, .f32⟩
  | 2 => ⟨S2048x16353, .f32⟩
  | 3 => ⟨S2048x16353, .f32⟩
  | 4 => ⟨S2048x16353, .f32⟩
  | 5 => ⟨S_, .f32⟩
  | 6 => ⟨S2048x16353, .f32⟩
  | 7 => ⟨S2048x16353, .f32⟩
  | 8 => ⟨S_, .f32⟩
  | 9 => ⟨S2048x16353, .f32⟩
  | 10 => ⟨S2048x16353, .f32⟩
  | 11 => ⟨S2048x16353, .f32⟩
  | 12 => ⟨S2048x16353, .f32⟩
  | 13 => ⟨S_, .f32⟩
  | 14 => ⟨S2048x16353, .f32⟩
  | 15 => ⟨S2048x16353, .f32⟩
  | 16 => ⟨S2048x16353, .f32⟩
  | 17 => ⟨S_, .i32⟩
  | 18 => ⟨S_, .f32⟩
  | 19 => ⟨S2048x16384, .f32⟩
  | 20 => ⟨S_, .f32⟩
  | 21 => ⟨S2048x16384, .f32⟩
  | 22 => ⟨S2048x16384, .f32⟩
  | 23 => ⟨S2048x16384, .f32⟩
  | 24 => ⟨S_, .f32⟩
  | 25 => ⟨S_, .f32⟩
  | 26 => ⟨S_, .f32⟩
  | 27 => ⟨S2048x16384, .f32⟩
  | 28 => ⟨S2048x16384, .f32⟩
  | 29 => ⟨S_, .f32⟩
  | 30 => ⟨S2048x16384, .f32⟩
  | 31 => ⟨S2048x16384, .f32⟩
  | 32 => ⟨S2048x16384, .f32⟩
  | 33 => ⟨S2048x16384, .f32⟩
  | _ => ⟨S2048x16384, .f32⟩

abbrev hbmTy (i : Nat) : BufTy := match i / 128 with
  | 0 => hbmTy0_0 i
  | 1 => hbmTy0_1 i
  | _ => ⟨S2048x16384, .f32⟩

abbrev bufTy : (tb : Table) → Fin (tcTables nBuf tb) → BufTy
  | .hbm, ⟨i, _⟩ => hbmTy i
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_cst_1 : Ref sig .tc := ⟨.hbm, 133, rfl⟩
abbrev main_v130 : Ref sig .tc := ⟨.hbm, 134, rfl⟩
abbrev main_v131 : Ref sig .tc := ⟨.hbm, 135, rfl⟩
abbrev main_cst_2 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_cst_3 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_c : Ref sig .tc := ⟨.hbm, 145, rfl⟩
abbrev main_call0_v0 : Ref sig .tc := ⟨.hbm, 146, rfl⟩
abbrev main_v139 : Ref sig .tc := ⟨.hbm, 147, rfl⟩
abbrev main_cst_4 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_cst_5 : Ref sig .tc := ⟨.hbm, 152, rfl⟩
abbrev main_cst_6 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩

abbrev nD : Nat := 1
abbrev τ : Topo := Topo.v7x

variable {F : FTy → Type} [FloatOps F]
-- ==== Proof.Window.lean ====
/-
  Sums over a window of 32 consecutive terms, as three banded sums over chunks of 256 terms give them. Extended reals
  only; no program is mentioned.
-/
module

public import Idealize.ShloMosaic.Lib.Pointwise

@[expose] public section

namespace Cert.WindowStd

/-- The sum of the 32 terms `g (t - 15), …, g (t + 16)`. -/
noncomputable def win (g : ℕ → EReal) (t : ℕ) : EReal := ∑ n ∈ Finset.Ico (t - 15) (t + 17), g n

/-- A chunk of `N` terms multiplied by the 0/1 indicator of the positions from `a` up to `b` and summed is the sum of
    the terms at those positions. -/
theorem sum_indicator (N off a b : ℕ) (g : ℕ → EReal) (P : ℕ → Prop) [DecidablePred P]
    (hP : ∀ c, c < N → (P c ↔ a ≤ c ∧ c < b)) :
    ∑ c : Fin N, g (off + c) * (if P c then (1 : EReal) else 0)
      = ∑ n ∈ Finset.Ico (off + a) (off + min b N), g n := by
  rw [Fin.sum_univ_eq_sum_range (fun c => g (off + c) * (if P c then (1 : EReal) else 0)) N]
  have h1 : ∀ c ∈ Finset.range N, g (off + c) * (if P c then (1 : EReal) else 0)
      = if a ≤ c ∧ c < b then g (off + c) else 0 := by
    intro c hc
    rw [Finset.mem_range] at hc
    by_cases h : P c
    · rw [if_pos h, if_pos ((hP c hc).1 h), mul_one]
    · rw [if_neg h, if_neg (fun h' => h ((hP c hc).2 h')), mul_zero]
  rw [Finset.sum_congr rfl h1, ← Finset.sum_filter]
  refine Finset.sum_bij (fun c _ => off + c) ?_ ?_ ?_ ?_
  · intro c hc
    simp only [Finset.mem_filter, Finset.mem_range, Finset.mem_Ico] at hc ⊢
    omega
  · intro c _ c' _ h
    omega
  · intro n hn
    simp only [Finset.mem_Ico] at hn
    refine ⟨n - off, ?_, by omega⟩
    simp only [Finset.mem_filter, Finset.mem_range]
    omega
  · intro c _; rfl

/-- Where every entry of the band is 0 the banded sum is 0, whatever it is taken of. -/
theorem sum_mul_zero_band (N : ℕ) (u : Fin N → EReal) (P : ℕ → Prop) [DecidablePred P]
    (hP : ∀ c, c < N → ¬ P c) :
    ∑ c : Fin N, u c * (if P c then (1 : EReal) else 0) = 0 := by
  refine Finset.sum_eq_zero fun c _ => ?_
  rw [if_neg (hP c c.isLt), mul_zero]

/-- A lane in the first half of chunk `i`: the chunk's own terms inside the window and the last terms of the chunk
    before make up the whole window. -/
theorem win_low (g : ℕ → EReal) (i l : ℕ) (hl : l < 128) (h0 : 15 ≤ 256 * i + l) (u : Fin 128 → EReal)
    (hu : 0 < i → ∀ c : Fin 128, u c = g (256 * i - 128 + c)) :
    (∑ c : Fin 256, g (256 * i + c) * (if l ≤ (c : ℕ) + 15 ∧ (c : ℕ) ≤ l + 16 then (1 : EReal) else 0))
      + ∑ c : Fin 128, u c * (if l + 128 ≤ (c : ℕ) + 15 then (1 : EReal) else 0) = win g (256 * i + l) := by
  rw [sum_indicator 256 (256 * i) (l - 15) (l + 17) g (fun c => l ≤ c + 15 ∧ c ≤ l + 16)
    (fun c _ => by constructor <;> rintro ⟨_, _⟩ <;> constructor <;> omega)]
  unfold win
  by_cases h : l < 15
  · have hi : 0 < i := by omega
    have e : ∑ c : Fin 128, u c * (if l + 128 ≤ (c : ℕ) + 15 then (1 : EReal) else 0)
        = ∑ n ∈ Finset.Ico (256 * i + l - 15) (256 * i), g n := by
      rw [Finset.sum_congr rfl fun c _ => by rw [hu hi c],
        sum_indicator 128 (256 * i - 128) (l + 113) 128 g (fun c => l + 128 ≤ c + 15) (fun c _ => by omega)]
      congr 2 <;> omega
    rw [e, add_comm]
    have e1 : 256 * i + (l - 15) = 256 * i := by omega
    have e2 : 256 * i + min (l + 17) 256 = 256 * i + l + 17 := by omega
    rw [e1, e2]
    exact Finset.sum_Ico_consecutive g (by omega) (by omega)
  · rw [sum_mul_zero_band 128 u (fun c => l + 128 ≤ c + 15) (fun c hc => by omega), add_zero]
    congr 2 <;> omega

/-- A lane in the second half of chunk `i`: the chunk's own terms inside the window and the first terms of the chunk
    after make up the whole window. -/
theorem win_high (g : ℕ → EReal) (i l : ℕ) (hl : 128 ≤ l) (hl' : l < 256) (N : ℕ) (hN : i ≤ N)
    (h0 : 256 * i + l < 256 * N + 240) (u : Fin 128 → EReal)
    (hu : i < N → ∀ c : Fin 128, u c = g (256 * i + 256 + c)) :
    (∑ c : Fin 256, g (256 * i + c) * (if l ≤ (c : ℕ) + 15 ∧ (c : ℕ) ≤ l + 16 then (1 : EReal) else 0))
      + ∑ c : Fin 128, u c * (if (c : ℕ) + 112 ≤ l - 128 then (1 : EReal) else 0) = win g (256 * i + l) := by
  rw [sum_indicator 256 (256 * i) (l - 15) (l + 17) g (fun c => l ≤ c + 15 ∧ c ≤ l + 16)
    (fun c _ => by constructor <;> rintro ⟨_, _⟩ <;> constructor <;> omega)]
  unfold win
  by_cases h : 240 ≤ l
  · have hi : i < N := by omega
    have e : ∑ c : Fin 128, u c * (if (c : ℕ) + 112 ≤ l - 128 then (1 : EReal) else 0)
        = ∑ n ∈ Finset.Ico (256 * i + 256) (256 * i + l + 17), g n := by
      rw [Finset.sum_congr rfl fun c _ => by rw [hu hi c],
        sum_indicator 128 (256 * i + 256) 0 (l - 239) g (fun c => c + 112 ≤ l - 128) (fun c _ => by omega)]
      congr 2 <;> omega
    rw [e]
    have e1 : 256 * i + (l - 15) = 256 * i + l - 15 := by omega
    have e2 : 256 * i + min (l + 17) 256 = 256 * i + 256 := by omega
    rw [e1, e2]
    exact Finset.sum_Ico_consecutive g (by omega) (by omega)
  · rw [sum_mul_zero_band 128 u (fun c => c + 112 ≤ l - 128) (fun c hc => by omega), add_zero]
    congr 2 <;> omega

/-- The window's 32 terms numbered from its first. -/
theorem win_eq_fin (g : ℕ → EReal) (t : ℕ) (h : 15 ≤ t) : win g t = ∑ j : Fin 32, g (t - 15 + j) := by
  unfold win
  rw [Fin.sum_univ_eq_sum_range (fun j => g (t - 15 + j)) 32, Finset.sum_Ico_eq_sum_range]
  have : t + 17 - (t - 15) = 32 := by omega
  rw [this]

end Cert.WindowStd

end
-- ==== Proof.Banded.lean ====
/-
  The banded product one chunked array goes through: each row holds 256 consecutive terms of a signal, and the three
  0/1 tables pick, for each lane, the 32 terms of its window out of the row itself, the row before (64 rows up) and the
  row after (64 rows down). Stated of the vector operations the kernel prints.
-/
module

public import proofs.«01_k».proof.Proof.Window
public import proofs.«01_k».proof.Proof.Gen.KernelIdeal.Skeleton

@[expose] public section

set_option maxRecDepth 16384

noncomputable section

open Idealize.ShloMosaic Cert.KernelIdeal Cert.KernelIdeal.Gen

namespace Cert.WindowStd

/-- The array's halves side by side: its bf16 high half (the array itself, on the extended reals) and the rest. -/
def hi (v : FVec Ideal S4096x256 .f32) : FVec Ideal S4096x256 .f32 := extf .f32 (truncf .bf16 v)

/-- The rest after the high half is taken away: 0 at a real number, `⊥` at an infinity. -/
def lo (v : FVec Ideal S4096x256 .f32) : FVec Ideal S4096x256 .f32 := subf v (hi v)

/-- Row by row, the product with the chunk's own table. -/
def own (v : FVec Ideal S4096x256 .f32) (mv : FVec Ideal S512x256 .f32) : FVec Ideal S4096x256 .f32 :=
  matmul dot_S4096x512_S512x256_S4096x256_1_0_0_1_n_n none
    (concatenate S4096x512 1 [⟨S4096x256, hi v⟩, ⟨S4096x256, lo v⟩] Facts₀.concatenates_S4096x256_S4096x256_S4096x512_d1)
    mv (constant S4096x256 .f32 0x00000000#32)

/-- The product with the table of the chunk before. -/
def prev (v : FVec Ideal S4096x256 .f32) (mm : FVec Ideal S256x128 .f32) : FVec Ideal S4096x128 .f32 :=
  matmul dot_S4096x256_S256x128_S4096x128_1_0_0_1_n_n none
    (concatenate S4096x256 1
      [⟨S4096x128, extractStridedSlice S4096x128 ![0, 128] (dynamicRotate 0 64#32 none (hi v) Facts₀.rotates_S4096x256_d0) Facts₀.slices_S4096x256_o0_128_S4096x128⟩,
       ⟨S4096x128, extractStridedSlice S4096x128 ![0, 128] (dynamicRotate 0 64#32 none (lo v) Facts₀.rotates_S4096x256_d0) Facts₀.slices_S4096x256_o0_128_S4096x128⟩]
      Facts₀.concatenates_S4096x128_S4096x128_S4096x256_d1)
    mm (constant S4096x128 .f32 0x00000000#32)

/-- The product with the table of the chunk after. -/
def next (v : FVec Ideal S4096x256 .f32) (mp : FVec Ideal S256x128 .f32) : FVec Ideal S4096x128 .f32 :=
  matmul dot_S4096x256_S256x128_S4096x128_1_0_0_1_n_n none
    (concatenate S4096x256 1
      [⟨S4096x128, extractStridedSlice S4096x128 ![0, 0] (dynamicRotate 0 4032#32 none (hi v) Facts₀.rotates_S4096x256_d0) Facts₀.slices_S4096x256_o0_0_S4096x128⟩,
       ⟨S4096x128, extractStridedSlice S4096x128 ![0, 0] (dynamicRotate 0 4032#32 none (lo v) Facts₀.rotates_S4096x256_d0) Facts₀.slices_S4096x256_o0_0_S4096x128⟩]
      Facts₀.concatenates_S4096x128_S4096x128_S4096x256_d1)
    mp (constant S4096x128 .f32 0x00000000#32)

/-- The banded sum: the chunk's own product, and the neighbours' on the first and the last 128 lanes. -/
def banded (v : FVec Ideal S4096x256 .f32) (mv : FVec Ideal S512x256 .f32) (mm mp : FVec Ideal S256x128 .f32) :
    FVec Ideal S4096x256 .f32 :=
  addf (own v mv) (concatenate S4096x256 1 [⟨S4096x128, prev v mm⟩, ⟨S4096x128, next v mp⟩]
    Facts₀.concatenates_S4096x128_S4096x128_S4096x256_d1)

/-- The chunk's own product at a lane: the row's terms and their rests, each against the table's column. -/
theorem own_apply (v : FVec Ideal S4096x256 .f32) (mv : FVec Ideal S512x256 .f32) (ρ : Fin 4096) (l : Fin 256) :
    own v mv (ix2 ρ l) = ∑ c : Fin 256, v (ix2 ρ c) * mv (ix2 ⟨c, by omega⟩ l)
      + ∑ c : Fin 256, (v (ix2 ρ c) - v (ix2 ρ c)) * mv (ix2 ⟨256 + c, by omega⟩ l) := by
  pointwise [own, hi, lo]

/-- The product with the chunk before: the last 128 terms of the row 64 rows up. -/
theorem prev_apply (v : FVec Ideal S4096x256 .f32) (mm : FVec Ideal S256x128 .f32) (ρ q : Fin 4096) (l : Fin 128)
    (hq : (q : ℕ) = (ρ + 4096 - 64) % 4096) :
    prev v mm (ix2 ρ l) = ∑ c : Fin 128, v (ix2 q ⟨128 + c, by omega⟩) * mm (ix2 ⟨c, by omega⟩ l)
      + ∑ c : Fin 128, (v (ix2 q ⟨128 + c, by omega⟩) - v (ix2 q ⟨128 + c, by omega⟩)) * mm (ix2 ⟨128 + c, by omega⟩ l) := by
  obtain rfl : q = ⟨(ρ + 4096 - 64) % 4096, Nat.mod_lt _ (by norm_num)⟩ := Fin.ext hq
  pointwise [prev, hi, lo]

/-- The product with the chunk after: the first 128 terms of the row 64 rows down. -/
theorem next_apply (v : FVec Ideal S4096x256 .f32) (mp : FVec Ideal S256x128 .f32) (ρ q : Fin 4096) (l : Fin 128)
    (hq : (q : ℕ) = (ρ + 4096 - 4032) % 4096) :
    next v mp (ix2 ρ l) = ∑ c : Fin 128, v (ix2 q ⟨c, by omega⟩) * mp (ix2 ⟨c, by omega⟩ l)
      + ∑ c : Fin 128, (v (ix2 q ⟨c, by omega⟩) - v (ix2 q ⟨c, by omega⟩)) * mp (ix2 ⟨128 + c, by omega⟩ l) := by
  obtain rfl : q = ⟨(ρ + 4096 - 4032) % 4096, Nat.mod_lt _ (by norm_num)⟩ := Fin.ext hq
  pointwise [next, hi, lo]

/-- The banded sum at a lane: a lane of the first half takes from the chunk before, one of the second half from the
    chunk after. -/
theorem banded_apply (v : FVec Ideal S4096x256 .f32) (mv : FVec Ideal S512x256 .f32) (mm mp : FVec Ideal S256x128 .f32)
    (ρ : Fin 4096) (l : Fin 256) :
    banded v mv mm mp (ix2 ρ l) = own v mv (ix2 ρ l)
      + if h : (l : ℕ) < 128 then prev v mm (ix2 ρ ⟨l, h⟩) else next v mp (ix2 ρ ⟨l - 128, by omega⟩) := by
  pointwise [banded]

/-- The three tables as 0/1 conditions on row and column. -/
structure Bands (mv : FVec Ideal S512x256 .f32) (mm mp : FVec Ideal S256x128 .f32) : Prop where
  /-- The chunk's own table, twice over (for the high half and for the rest). -/
  own : ∀ (k : Fin 512) (l : Fin 256),
    mv (ix2 k l) = if (l : ℕ) ≤ (k : ℕ) % 256 + 15 ∧ (k : ℕ) % 256 ≤ l + 16 then 1 else 0
  /-- The table of the chunk before. -/
  prev : ∀ (k : Fin 256) (l : Fin 128), mm (ix2 k l) = if (l : ℕ) + 128 ≤ (k : ℕ) % 128 + 15 then 1 else 0
  /-- The table of the chunk after. -/
  next : ∀ (k : Fin 256) (l : Fin 128), mp (ix2 k l) = if (k : ℕ) % 128 + 112 ≤ (l : ℕ) then 1 else 0

/-- **The banded sum is the window's sum.** Let row `64·i + r` of the array hold the terms `256·i, …, 256·i + 255` of a
    signal, for each of the 64 chunks. Then at each lane whose window lies inside the signal the banded sum is the
    window's sum of the signal plus the window's sum of the rests. -/
theorem banded_win (v : FVec Ideal S4096x256 .f32) (mv : FVec Ideal S512x256 .f32) (mm mp : FVec Ideal S256x128 .f32)
    (hB : Bands mv mm mp) (g : ℕ → EReal) (r : ℕ) (hr : r < 64)
    (hv : ∀ (i : ℕ) (hi : i < 64) (c : Fin 256), v (ix2 ⟨64 * i + r, by omega⟩ c) = g (256 * i + c))
    (i : ℕ) (hi : i < 64) (l : Fin 256) (h0 : 15 ≤ 256 * i + (l : ℕ)) (h1 : 256 * i + (l : ℕ) < 16368) :
    banded v mv mm mp (ix2 ⟨64 * i + r, by omega⟩ l)
      = win g (256 * i + l) + win (fun n => g n - g n) (256 * i + l) := by
  have e1 : ∀ c : Fin 256, (c : ℕ) % 256 = c := fun c => Nat.mod_eq_of_lt c.isLt
  have e2 : ∀ c : Fin 256, (256 + (c : ℕ)) % 256 = c := fun c => by omega
  have e3 : ∀ c : Fin 128, (c : ℕ) % 128 = c := fun c => Nat.mod_eq_of_lt c.isLt
  have e4 : ∀ c : Fin 128, (128 + (c : ℕ)) % 128 = c := fun c => by omega
  rw [banded_apply, own_apply]
  simp only [hB.own, e1, e2, hv i hi]
  split
  · rename_i h
    rw [prev_apply v mm ⟨64 * i + r, by omega⟩ ⟨(64 * i + r + 4096 - 64) % 4096, by omega⟩ ⟨l, h⟩ rfl]
    simp only [hB.prev, e3, e4]
    rw [add_add_add_comm]
    have hu : 0 < i → ∀ c : Fin 128, v (ix2 ⟨(64 * i + r + 4096 - 64) % 4096, by omega⟩ ⟨128 + c, by omega⟩)
        = g (256 * i - 128 + c) := by
      intro h c
      obtain ⟨j, rfl⟩ : ∃ j, i = j + 1 := ⟨i - 1, by omega⟩
      have e : (⟨(64 * (j + 1) + r + 4096 - 64) % 4096, by omega⟩ : Fin 4096) = ⟨64 * j + r, by omega⟩ :=
        Fin.ext (by show (64 * (j + 1) + r + 4096 - 64) % 4096 = 64 * j + r; omega)
      rw [e, hv j (by omega)]
      congr 1
      show 256 * j + (128 + (c : ℕ)) = 256 * (j + 1) - 128 + c
      omega
    congr 1
    · exact win_low g i l h h0 _ hu
    · exact win_low (fun n => g n - g n) i l h h0 _ fun h c => by rw [hu h c]
  · rename_i h
    rw [next_apply v mp ⟨64 * i + r, by omega⟩ ⟨(64 * i + r + 4096 - 4032) % 4096, by omega⟩ ⟨l - 128, by omega⟩ rfl]
    simp only [hB.next, e3, e4]
    rw [add_add_add_comm]
    have hu : i < 63 → ∀ c : Fin 128, v (ix2 ⟨(64 * i + r + 4096 - 4032) % 4096, by omega⟩ ⟨c, by omega⟩)
        = g (256 * i + 256 + c) := by
      intro h c
      have e : (⟨(64 * i + r + 4096 - 4032) % 4096, by omega⟩ : Fin 4096) = ⟨64 * (i + 1) + r, by omega⟩ :=
        Fin.ext (by show (64 * i + r + 4096 - 4032) % 4096 = 64 * (i + 1) + r; omega)
      rw [e, hv (i + 1) (by omega)]
      congr 1
    congr 1
    · exact win_high g i l (by omega) l.isLt 63 (by omega) (by omega) _ hu
    · exact win_high (fun n => g n - g n) i l (by omega) l.isLt 63 (by omega) (by omega) _ fun h c => by rw [hu h c]

end Cert.WindowStd

end

end
-- ==== Proof.Chunks.lean ====
/-
  The chunked array a grid step works on: its 64 rows of 16384 terms, cut into 64 chunks of 256 lanes, the chunks under
  one another. Row `64·i + r` holds chunk `i` of row `r`.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Cert.KernelIdeal Cert.KernelIdeal.Gen

namespace Cert.WindowStd

/-- The 64 loads of a block, one under the other. -/
def chunks (x0 : Vec Ideal S64x16384 .f32) : FVec Ideal S4096x256 .f32 :=
  k0_pay1 (View.ld x0 r0_0) (View.ld x0 r0_1) (View.ld x0 r0_2) (View.ld x0 r0_3) (View.ld x0 r0_4) (View.ld x0 r0_5) (View.ld x0 r0_6) (View.ld x0 r0_7)
    (View.ld x0 r0_8) (View.ld x0 r0_9) (View.ld x0 r0_10) (View.ld x0 r0_11) (View.ld x0 r0_12) (View.ld x0 r0_13) (View.ld x0 r0_14) (View.ld x0 r0_15)
    (View.ld x0 r0_16) (View.ld x0 r0_17) (View.ld x0 r0_18) (View.ld x0 r0_19) (View.ld x0 r0_20) (View.ld x0 r0_21) (View.ld x0 r0_22) (View.ld x0 r0_23)
    (View.ld x0 r0_24) (View.ld x0 r0_25) (View.ld x0 r0_26) (View.ld x0 r0_27) (View.ld x0 r0_28) (View.ld x0 r0_29) (View.ld x0 r0_30) (View.ld x0 r0_31)
    (View.ld x0 r0_32) (View.ld x0 r0_33) (View.ld x0 r0_34) (View.ld x0 r0_35) (View.ld x0 r0_36) (View.ld x0 r0_37) (View.ld x0 r0_38) (View.ld x0 r0_39)
    (View.ld x0 r0_40) (View.ld x0 r0_41) (View.ld x0 r0_42) (View.ld x0 r0_43) (View.ld x0 r0_44) (View.ld x0 r0_45) (View.ld x0 r0_46) (View.ld x0 r0_47)
    (View.ld x0 r0_48) (View.ld x0 r0_49) (View.ld x0 r0_50) (View.ld x0 r0_51) (View.ld x0 r0_52) (View.ld x0 r0_53) (View.ld x0 r0_54) (View.ld x0 r0_55)
    (View.ld x0 r0_56) (View.ld x0 r0_57) (View.ld x0 r0_58) (View.ld x0 r0_59) (View.ld x0 r0_60) (View.ld x0 r0_61) (View.ld x0 r0_62) (View.ld x0 r0_63)

/-- The load of one chunk of a block. -/
def chunk (x0 : Vec Ideal S64x16384 .f32) (i : Fin 64) : Vec Ideal S64x256 .f32 :=
  View.ld x0 (Rect.unit (s := S64x16384) ![0, 256 * i] S64x256.size fun a => by
    fin_cases a
    · show 0 + 64 ≤ 64; omega
    · show 256 * (i : ℕ) + 256 ≤ 16384; omega)

/-- A chunk at a row and a lane. -/
theorem chunk_apply (x0 : Vec Ideal S64x16384 .f32) (i : Fin 64) (r : Fin 64) (c : Fin 256) :
    chunk x0 i (ix2 r c) = x0 (ix2 r ⟨256 * i + c, by omega⟩) := by
  refine View.ld_unit_apply_of _ _ _ _ _ _ fun a => ?_
  fin_cases a
  · show (r : ℕ) = 0 + r; omega
  · rfl

/-- The array is the concatenation of its chunks. -/
theorem chunks_eq (x0 : Vec Ideal S64x16384 .f32)
    (h : Shape.Concatenates ((List.ofFn fun i : Fin 64 => (⟨S64x256, chunk x0 i⟩ : (s : Shape) × (s.Idx → Ideal .f32))).map (·.1)) S4096x256 0) :
    chunks x0 = concatenate S4096x256 0 (List.ofFn fun i : Fin 64 => ⟨S64x256, chunk x0 i⟩) h := rfl

/-- Row `64·i + r` of the array, lane `c`, is term `256·i + c` of the block's row `r`. -/
theorem chunks_apply (x0 : Vec Ideal S64x16384 .f32) (i : ℕ) (hi : i < 64) (r : Fin 64) (c : Fin 256) :
    chunks x0 (ix2 ⟨64 * i + r, by omega⟩ c) = x0 (ix2 r ⟨256 * i + c, by omega⟩) := by
  rw [chunks_eq x0 (by exact Facts₀.concatenates_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S4096x256_d0)]
  refine (concatenate_ofFn_apply (s₁ := S64x256) (t := S4096x256) 0 (chunk x0) _ rfl 64 rfl _ ⟨i, hi⟩ ?_ (ix2 r c) ?_ ?_).trans
    (chunk_apply x0 ⟨i, hi⟩ r c)
  · show (64 * i + (r : ℕ)) / 64 = i; omega
  · show (r : ℕ) = (64 * i + r) % 64; omega
  · intro b hb
    fin_cases b
    · exact absurd rfl hb
    · rfl

end Cert.WindowStd

end

end
-- ==== Proof.Scalar.lean ====
/-
  The arithmetic of one result element on the extended reals: the two ways of taking a standard deviation from a
  window's sum and sum of squares, and the two ways of comparing it with the threshold. No program is mentioned.
-/
module

public import Idealize.ShloMosaic.Lib.Pointwise

@[expose] public section

noncomputable section

open Idealize.ShloMosaic

namespace Cert.WindowStd

/-! ## The constants the two programs spell as binary32 words -/

theorem word_32 : Ideal.ofBits .f32 0x42000000#32 = ((32 : ℝ) : EReal) := by
  have e : BitVec.toNat (BitVec.extractLsb' 23 8 0x42000000#32) = 132 := by decide
  have f : BitVec.toNat (BitVec.extractLsb' 0 23 0x42000000#32) = 0 := by decide
  have n : (BitVec.extractLsb' 31 1 0x42000000#32 == 1#1) = false := by decide
  unfold Ideal.ofBits Ideal.ieee
  dsimp only
  rw [e, f, n]
  norm_num

theorem word_inv32 : Ideal.ofBits .f32 0x3D000000#32 = ((1 / 32 : ℝ) : EReal) := by
  have e : BitVec.toNat (BitVec.extractLsb' 23 8 0x3D000000#32) = 122 := by decide
  have f : BitVec.toNat (BitVec.extractLsb' 0 23 0x3D000000#32) = 0 := by decide
  have n : (BitVec.extractLsb' 31 1 0x3D000000#32 == 1#1) = false := by decide
  unfold Ideal.ofBits Ideal.ieee
  dsimp only
  rw [e, f, n]
  norm_num

/-- The threshold as the kernel spells it, the binary32 number nearest 1.1. -/
theorem word_th : Ideal.ofBits .f32 0x3F8CCCCD#32 = ((9227469 / 8388608 : ℝ) : EReal) := by
  have e : BitVec.toNat (BitVec.extractLsb' 23 8 0x3F8CCCCD#32) = 127 := by decide
  have f : BitVec.toNat (BitVec.extractLsb' 0 23 0x3F8CCCCD#32) = 838861 := by decide
  have n : (BitVec.extractLsb' 31 1 0x3F8CCCCD#32 == 1#1) = false := by decide
  unfold Ideal.ofBits Ideal.ieee
  dsimp only
  rw [e, f, n]
  norm_num

/-- Twice the threshold as the reference spells it, the binary32 number nearest 2.2: exactly twice the kernel's. -/
theorem word_2th : Ideal.ofBits .f32 0x400CCCCD#32 = ((9227469 / 4194304 : ℝ) : EReal) := by
  have e : BitVec.toNat (BitVec.extractLsb' 23 8 0x400CCCCD#32) = 128 := by decide
  have f : BitVec.toNat (BitVec.extractLsb' 0 23 0x400CCCCD#32) = 838861 := by decide
  have n : (BitVec.extractLsb' 31 1 0x400CCCCD#32 == 1#1) = false := by decide
  unfold Ideal.ofBits Ideal.ieee
  dsimp only
  rw [e, f, n]
  norm_num

/-! ## Sums with an infinite term -/

variable {ι : Type} [DecidableEq ι]

/-- A sum with a term `⊥` is `⊥`. -/
theorem sum_of_bot (s : Finset ι) (u : ι → EReal) (a : ι) (ha : a ∈ s) (h : u a = ⊥) : ∑ n ∈ s, u n = ⊥ := by
  rw [← Finset.add_sum_erase s u ha, h, EReal.bot_add]

/-- A sum without a term `⊥` is not `⊥`. -/
theorem sum_not_bot (s : Finset ι) (u : ι → EReal) (h : ∀ n ∈ s, u n ≠ ⊥) : ∑ n ∈ s, u n ≠ ⊥ := by
  induction s using Finset.induction_on with
  | empty => simp
  | insert a s ha ih =>
    rw [Finset.sum_insert ha]
    have h1 := h a (Finset.mem_insert_self a s)
    have h2 := ih fun n hn => h n (Finset.mem_insert_of_mem hn)
    rw [Ne, EReal.add_eq_bot_iff]
    rintro (h' | h')
    · exact h1 h'
    · exact h2 h'

/-- A sum with a term `⊤` and no term `⊥` is `⊤`. -/
theorem sum_of_top (s : Finset ι) (u : ι → EReal) (a : ι) (ha : a ∈ s) (h : u a = ⊤) (hb : ∀ n ∈ s, u n ≠ ⊥) :
    ∑ n ∈ s, u n = ⊤ := by
  rw [← Finset.add_sum_erase s u ha, h]
  exact EReal.top_add_of_ne_bot (sum_not_bot _ _ fun n hn => hb n (Finset.mem_of_mem_erase hn))

/-- A sum of real terms is the real sum. -/
theorem sum_of_real (s : Finset ι) (u : ι → EReal) (r : ι → ℝ) (h : ∀ n ∈ s, u n = (r n : EReal)) :
    ∑ n ∈ s, u n = ((∑ n ∈ s, r n : ℝ) : EReal) := by
  induction s using Finset.induction_on with
  | empty => simp
  | insert a s ha ih =>
    rw [Finset.sum_insert ha, Finset.sum_insert ha, h a (Finset.mem_insert_self a s),
      ih fun n hn => h n (Finset.mem_insert_of_mem hn), EReal.coe_add]

/-! ## The standard deviation -/

/-- The kernel's: `sqrt (max (32 s₂ - s₁²) 0) / 32`, the maximum written as a choice. -/
def devK (s1 s2 : EReal) : EReal :=
  Ideal.sqrt (if 0 < ((32 : ℝ) : EReal) * s2 - s1 * s1 then ((32 : ℝ) : EReal) * s2 - s1 * s1 else 0)
    * ((1 / 32 : ℝ) : EReal)

/-- The reference's: `sqrt (max (s₂ / 32 - (s₁ / 32)²) 0)`. -/
def devR (s1 s2 : EReal) : EReal :=
  Ideal.sqrt (max (Ideal.div s2 ((32 : ℝ) : EReal)
    - Ideal.div s1 ((32 : ℝ) : EReal) * Ideal.div s1 ((32 : ℝ) : EReal)) 0)

theorem div_32 (x : EReal) : Ideal.div x ((32 : ℝ) : EReal) = x * ((1 / 32 : ℝ) : EReal) := by
  unfold Ideal.div
  rw [if_neg (by norm_num), ← EReal.coe_inv]
  norm_num

theorem sqrt_real (r : ℝ) (h : 0 ≤ r) : Ideal.sqrt (r : EReal) = (Real.sqrt r : EReal) := by
  rw [Ideal.sqrt_coe, if_neg (not_lt.2 h)]

theorem sqrt_zero : Ideal.sqrt 0 = 0 := by
  have := sqrt_real 0 le_rfl
  simpa using this

/-- On real sums the two standard deviations are one real number, not negative. -/
theorem dev_real (a b : ℝ) :
    devK (a : EReal) (b : EReal) = ((Real.sqrt (max (32 * b - a * a) 0) / 32 : ℝ) : EReal)
    ∧ devR (a : EReal) (b : EReal) = ((Real.sqrt (max (32 * b - a * a) 0) / 32 : ℝ) : EReal) := by
  constructor
  · unfold devK
    have e : ((32 : ℝ) : EReal) * (b : EReal) - (a : EReal) * (a : EReal) = ((32 * b - a * a : ℝ) : EReal) := by
      rw [EReal.coe_sub, EReal.coe_mul, EReal.coe_mul]
    have e' : (if 0 < ((32 * b - a * a : ℝ) : EReal) then ((32 * b - a * a : ℝ) : EReal) else 0)
        = ((max (32 * b - a * a) 0 : ℝ) : EReal) := by
      by_cases h : 0 < 32 * b - a * a
      · rw [if_pos (by exact_mod_cast h), max_eq_left h.le]
      · rw [if_neg (by exact_mod_cast h), max_eq_right (not_lt.1 h), EReal.coe_zero]
    rw [e, e', sqrt_real _ (le_max_right _ _), ← EReal.coe_mul]
    congr 1
    ring
  · unfold devR
    have e : (b : EReal) * ((1 / 32 : ℝ) : EReal)
        - (a : EReal) * ((1 / 32 : ℝ) : EReal) * ((a : EReal) * ((1 / 32 : ℝ) : EReal))
        = ((b * (1 / 32) - a * (1 / 32) * (a * (1 / 32)) : ℝ) : EReal) := by
      simp only [EReal.coe_sub, EReal.coe_mul]
    have e' : max (((b * (1 / 32) - a * (1 / 32) * (a * (1 / 32)) : ℝ) : EReal)) 0
        = ((max (32 * b - a * a) 0 / 32 ^ 2 : ℝ) : EReal) := by
      have : (b * (1 / 32) - a * (1 / 32) * (a * (1 / 32)) : ℝ) = (32 * b - a * a) / 32 ^ 2 := by ring
      rw [this, ← EReal.coe_zero, ← EReal.coe_strictMono.monotone.map_max]
      congr 1
      rw [← max_div_div_right (by norm_num : (0 : ℝ) ≤ 32 ^ 2), zero_div]
    rw [div_32, div_32, e, e', sqrt_real _ (by positivity), Real.sqrt_div' _ (by norm_num),
      Real.sqrt_sq (by norm_num)]

/-- An extended real is a real number or its difference with itself is `⊥`, its square `⊤`. -/
theorem real_or (x : EReal) : (∃ r : ℝ, x = r) ∨ ((x = ⊥ ∨ x = ⊤) ∧ x - x = ⊥ ∧ x * x = ⊤ ∧ x * x - x * x = ⊥) := by
  induction x with
  | bot => right; exact ⟨.inl rfl, rfl, by simp, by simp⟩
  | top => right; exact ⟨.inr rfl, rfl, by simp, by simp⟩
  | coe r => exact .inl ⟨r, rfl⟩

/-- The two standard deviations of one window agree, and are a real number that is not negative, whether its terms are
    all real or not: the kernel's sums carry beside each term `u n` the rest `u n - u n` (and beside its square the
    square's), which is 0 at a real number and `⊥` at an infinity. -/
theorem dev_eq (s : Finset ι) (u : ι → EReal) :
    ∃ r : ℝ, 0 ≤ r
      ∧ devK ((∑ n ∈ s, u n) + ∑ n ∈ s, (u n - u n)) ((∑ n ∈ s, u n * u n) + ∑ n ∈ s, (u n * u n - u n * u n)) = r
      ∧ devR (∑ n ∈ s, u n) (∑ n ∈ s, u n * u n) = r := by
  by_cases hf : ∀ n ∈ s, ∃ r : ℝ, u n = r
  · choose! r hr using hf
    have h1 : ∑ n ∈ s, u n = ((∑ n ∈ s, r n : ℝ) : EReal) := sum_of_real s u r hr
    have h2 : ∑ n ∈ s, u n * u n = ((∑ n ∈ s, r n * r n : ℝ) : EReal) :=
      sum_of_real s _ (fun n => r n * r n) fun n hn => by rw [hr n hn, EReal.coe_mul]
    have z1 : ∑ n ∈ s, (u n - u n) = 0 :=
      Finset.sum_eq_zero fun n hn => by rw [hr n hn, ← EReal.coe_sub, sub_self, EReal.coe_zero]
    have z2 : ∑ n ∈ s, (u n * u n - u n * u n) = 0 :=
      Finset.sum_eq_zero fun n hn => by rw [hr n hn, ← EReal.coe_mul, ← EReal.coe_sub, sub_self, EReal.coe_zero]
    rw [h1, h2, z1, z2, add_zero, add_zero]
    exact ⟨_, by positivity, dev_real _ _⟩
  · push Not at hf
    obtain ⟨a, ha, hn⟩ := hf
    have inf : (u a = ⊥ ∨ u a = ⊤) ∧ u a - u a = ⊥ ∧ u a * u a = ⊤ ∧ u a * u a - u a * u a = ⊥ := by
      rcases real_or (u a) with ⟨r, hr⟩ | h
      · exact absurd hr (hn r)
      · exact h
    obtain ⟨ia, da, sa, qa⟩ := inf
    have z1 : ∑ n ∈ s, (u n - u n) = ⊥ := sum_of_bot s _ a ha da
    have z2 : ∑ n ∈ s, (u n * u n - u n * u n) = ⊥ := sum_of_bot s _ a ha qa
    have h2 : ∑ n ∈ s, u n * u n = ⊤ := by
      refine sum_of_top s _ a ha sa fun n _ => ?_
      rcases real_or (u n) with ⟨r, hr⟩ | h
      · rw [hr, ← EReal.coe_mul]; exact EReal.coe_ne_bot _
      · rw [h.2.2.1]; exact top_ne_bot
    have h1 : ∑ n ∈ s, u n = ⊥ ∨ ∑ n ∈ s, u n = ⊤ := by
      by_cases hb : ∃ b ∈ s, u b = ⊥
      · obtain ⟨b, hb, e⟩ := hb
        exact .inl (sum_of_bot s u b hb e)
      · push Not at hb
        exact .inr (sum_of_top s u a ha (ia.resolve_left (hb a ha)) hb)
    refine ⟨0, le_rfl, ?_, ?_⟩
    · rw [z1, z2, EReal.add_bot, EReal.add_bot]
      unfold devK
      have e : ((32 : ℝ) : EReal) * ⊥ - ⊥ * ⊥ = (⊥ : EReal) := by
        rw [EReal.coe_mul_bot_of_pos (by norm_num)]; simp
      rw [e, if_neg (by simp), sqrt_zero, zero_mul, EReal.coe_zero]
    · rw [h2]
      unfold devR
      rw [div_32, div_32, EReal.top_mul_coe_of_pos (by norm_num)]
      have e : (∑ n ∈ s, u n) * ((1 / 32 : ℝ) : EReal) * ((∑ n ∈ s, u n) * ((1 / 32 : ℝ) : EReal)) = ⊤ := by
        rcases h1 with h | h <;> rw [h]
        · rw [EReal.bot_mul_coe_of_pos (by norm_num)]; simp
        · rw [EReal.top_mul_coe_of_pos (by norm_num)]; simp
      rw [e]
      have : (⊤ : EReal) - ⊤ = ⊥ := rfl
      rw [this, max_eq_right bot_le, sqrt_zero, EReal.coe_zero]

/-! ## The threshold -/

/-- Rounding to the nearest integer, ties to even, gives at least 1 exactly above one half. -/
theorem one_le_round (q : ℝ) (h : 0 ≤ q) : (1 : ℤ) ≤ Ideal.roundHalfEven q ↔ 1 / 2 < q := by
  unfold Ideal.roundHalfEven
  have f0 : 0 ≤ ⌊q⌋ := Int.floor_nonneg.2 h
  by_cases h1 : 1 ≤ q
  · have f1 : 1 ≤ ⌊q⌋ := Int.le_floor.2 (by exact_mod_cast h1)
    refine ⟨fun _ => by linarith, fun _ => ?_⟩
    dsimp only
    split_ifs <;> omega
  · have f1 : ⌊q⌋ = 0 := Int.floor_eq_iff.2 ⟨by simpa using h, by simpa using not_le.1 h1⟩
    rw [f1]
    dsimp only
    rw [Int.cast_zero, sub_zero]
    by_cases h2 : q < 1 / 2
    · rw [if_pos h2]
      exact ⟨fun h => absurd h (by norm_num), fun h => absurd h (not_lt.2 h2.le)⟩
    · rw [if_neg h2]
      by_cases h3 : 1 / 2 < q
      · rw [if_pos h3]
        exact ⟨fun _ => h3, fun _ => by norm_num⟩
      · rw [if_neg h3, if_pos (by decide)]
        exact ⟨fun h => absurd h (by norm_num), fun h => absurd h h3⟩

/-- The reference's hard decision with its straight-through terms, `q + (clip (round q) 0 1 - q)` at
    `q = r / 2.2`, is the kernel's comparison of `r` with 1.1. -/
theorem hard_eq (r : ℝ) (h : 0 ≤ r) :
    Ideal.div (r : EReal) ((9227469 / 4194304 : ℝ) : EReal)
      + (min 1 (max 0 (Ideal.liftRound Ideal.roundHalfEven (Ideal.div (r : EReal) ((9227469 / 4194304 : ℝ) : EReal))))
          - Ideal.div (r : EReal) ((9227469 / 4194304 : ℝ) : EReal))
      = if ((9227469 / 8388608 : ℝ) : EReal) < (r : EReal) then 1 else 0 := by
  have hq : Ideal.div (r : EReal) ((9227469 / 4194304 : ℝ) : EReal) = ((r / (9227469 / 4194304) : ℝ) : EReal) := by
    unfold Ideal.div
    rw [if_neg (by norm_num), ← EReal.coe_inv, ← EReal.coe_mul, div_eq_mul_inv r]
  rw [hq]
  have hq0 : 0 ≤ r / (9227469 / 4194304 : ℝ) := by positivity
  have hr : 1 / 2 < r / (9227469 / 4194304 : ℝ) ↔ (9227469 / 8388608 : ℝ) < r := by
    rw [lt_div_iff₀ (by norm_num)]; norm_num
  have hround := one_le_round _ hq0
  rw [hr] at hround
  generalize r / (9227469 / 4194304 : ℝ) = q at *
  rw [Ideal.liftRound_coe]
  generalize Ideal.roundHalfEven q = z at *
  have hz : min 1 (max 0 (((z : ℝ)) : EReal)) = if (9227469 / 8388608 : ℝ) < r then ((1 : ℝ) : EReal) else ((0 : ℝ) : EReal) := by
    by_cases h1 : (9227469 / 8388608 : ℝ) < r
    · have : (1 : ℝ) ≤ z := by exact_mod_cast hround.2 h1
      rw [if_pos h1]
      have h' : (1 : EReal) ≤ ((z : ℝ) : EReal) := by exact_mod_cast this
      rw [max_eq_right (zero_le_one.trans h'), min_eq_left h', EReal.coe_one]
    · have : z ≤ 0 := by have := mt hround.1 h1; omega
      have h' : ((z : ℝ) : EReal) ≤ 0 := by exact_mod_cast this
      rw [if_neg h1, max_eq_left h', min_eq_right zero_le_one, EReal.coe_zero]
  rw [hz]
  by_cases h1 : (9227469 / 8388608 : ℝ) < r
  · rw [if_pos h1, if_pos (by exact_mod_cast h1), ← EReal.coe_sub, ← EReal.coe_add, add_sub_cancel, EReal.coe_one]
  · rw [if_neg h1, if_neg (by exact_mod_cast h1), ← EReal.coe_sub, ← EReal.coe_add, add_sub_cancel, EReal.coe_zero]

end Cert.WindowStd

end

end
-- ==== Proof.Sigma.lean ====
/-
  What one grid step computes: the deviation `sqrt (max (32·s2 − s1²) 0) / 32` of every window from its two banded sums,
  set to 0 where the window would leave the row, and the 0/1 decision against the threshold.
-/
module

public import proofs.«01_k».proof.Proof.Banded
public import proofs.«01_k».proof.Proof.Chunks
public import proofs.«01_k».proof.Proof.Scalar

@[expose] public section

set_option maxRecDepth 16384

noncomputable section

open Idealize.ShloMosaic Cert.KernelIdeal Cert.KernelIdeal.Gen

namespace Cert.WindowStd

/-- The deviation out of the sums of the terms and of their squares. -/
def dev (s1 s2 : FVec Ideal S4096x256 .f32) : FVec Ideal S4096x256 .f32 :=
  mulf (sqrt (select
      (cmpf .ogt (subf (mulf (broadcast S4096x256 (Scalar.ofBits .f32 0x42000000#32)) s2) (mulf s1 s1))
        (broadcast S4096x256 (Scalar.ofBits .f32 0x00000000#32)))
      (subf (mulf (broadcast S4096x256 (Scalar.ofBits .f32 0x42000000#32)) s2) (mulf s1 s1))
      (broadcast S4096x256 (Scalar.ofBits .f32 0x00000000#32))))
    (broadcast S4096x256 (Scalar.ofBits .f32 0x3D000000#32))

/-- The array with the first 15 lanes of the first chunk and the last 16 of the last chunk set to 0. -/
def edges (v : FVec Ideal S4096x256 .f32) : FVec Ideal S4096x256 .f32 :=
  concatenate S4096x256 0
    [⟨S64x256, select (cmpi .slt (iota .tc S64x256 32 [1] Facts₀.iota_S64x256_d1_w32) (broadcast S64x256 15#32))
        (broadcast S64x256 (Scalar.ofBits (F := Ideal) .f32 0x00000000#32))
        (extractStridedSlice S64x256 ![0, 0] v Facts₀.slices_S4096x256_o0_0_S64x256)⟩,
     ⟨S3968x256, extractStridedSlice S3968x256 ![64, 0] v Facts₀.slices_S4096x256_o64_0_S3968x256⟩,
     ⟨S64x256, select (cmpi .sge (iota .tc S64x256 32 [1] Facts₀.iota_S64x256_d1_w32) (broadcast S64x256 240#32))
        (broadcast S64x256 (Scalar.ofBits (F := Ideal) .f32 0x00000000#32))
        (extractStridedSlice S64x256 ![4032, 0] v Facts₀.slices_S4096x256_o4032_0_S64x256)⟩]
    Facts₀.concatenates_S64x256_S3968x256_S64x256_S4096x256_d0

/-- The step's deviations are the masked deviation of the banded sums of the chunks and of their squares. -/
theorem pay137_eq (x0 : Vec Ideal S64x16384 .f32) (x1 : Vec Ideal S512x256 .f32) (x2 x3 : Vec Ideal S256x128 .f32) :
    k0_pay137 (F := Ideal) x0 x1 x2 x3
      = edges (dev (banded (chunks x0) x1 x2 x3) (banded (mulf (chunks x0) (chunks x0)) x1 x2 x3)) := by
  have e1 : View.ld x1 r0_64 = x1 := View.ld_unit_lit _ _ (by intro a; fin_cases a <;> rfl)
  have e2 : View.ld x2 r0_65 = x2 := View.ld_unit_lit _ _ (by intro a; fin_cases a <;> rfl)
  have e3 : View.ld x3 r0_65 = x3 := View.ld_unit_lit _ _ (by intro a; fin_cases a <;> rfl)
  unfold k0_pay137
  rw [e1, e2, e3]
  rfl

/-- The deviation, index by index. -/
theorem dev_apply (s1 s2 : FVec Ideal S4096x256 .f32) (ρ : Fin 4096) (l : Fin 256) :
    dev s1 s2 (ix2 ρ l) = devK (s1 (ix2 ρ l)) (s2 (ix2 ρ l)) := by
  pointwise [dev]
  unfold devK
  rw [word_32, word_inv32]

/-- Lane `l` below 15, as the printed comparison of words. -/
theorem lane_low : ∀ l : Fin 256, IntOp.cmpi .slt (BitVec.ofNat 32 l) 15#32 = if (l : ℕ) < 15 then 1#1 else 0#1 := by
  decide +kernel

/-- Lane `l` from 240 on, as the printed comparison of words. -/
theorem lane_high : ∀ l : Fin 256, IntOp.cmpi .sge (BitVec.ofNat 32 l) 240#32 = if 240 ≤ (l : ℕ) then 1#1 else 0#1 := by
  decide +kernel

/-- A choice on the bit of a condition is a choice on the condition. -/
theorem select_bit (p : Prop) [Decidable p] (a b : EReal) :
    Scalar.select (if p then 1#1 else 0#1) a b = if p then a else b := by
  unfold Scalar.select
  split <;> simp

/-- The masked array at row `64·i + r`, lane `l`: 0 at the terms `256·i + l` whose window leaves the row. -/
theorem edges_apply (v : FVec Ideal S4096x256 .f32) (i : ℕ) (hi : i < 64) (r : ℕ) (hr : r < 64) (l : Fin 256) :
    edges v (ix2 ⟨64 * i + r, by omega⟩ l)
      = if 256 * i + (l : ℕ) < 15 ∨ 16368 ≤ 256 * i + (l : ℕ) then 0 else v (ix2 ⟨64 * i + r, by omega⟩ l) := by
  refine Eq.trans (b := if h : 64 * i + r < 64 then
      Scalar.select (IntOp.cmpi .slt (BitVec.ofNat 32 l) 15#32) 0 (v (ix2 ⟨64 * i + r, by omega⟩ l))
    else if h : 64 * i + r - 64 < 3968 then v (ix2 ⟨64 + (64 * i + r - 64), by omega⟩ l)
    else Scalar.select (IntOp.cmpi .sge (BitVec.ofNat 32 l) 240#32) 0
      (v (ix2 ⟨4032 + (64 * i + r - 64 - 3968), by omega⟩ l))) (by pointwise [edges]) ?_
  simp only [lane_low, lane_high, select_bit]
  have e : ∀ ρ : Fin 4096, (ρ : ℕ) = 64 * i + r → v (ix2 ρ l) = v (ix2 ⟨64 * i + r, by omega⟩ l) :=
    fun ρ h => by rw [show ρ = ⟨64 * i + r, by omega⟩ from Fin.ext h]
  split
  · refine if_congr ?_ rfl rfl
    constructor <;> intro <;> omega
  · split
    · rw [if_neg (by omega)]
      exact e _ (by show 64 + (64 * i + r - 64) = 64 * i + r; omega)
    · rw [e ⟨4032 + (64 * i + r - 64 - 3968), by omega⟩ (by show 4032 + (64 * i + r - 64 - 3968) = 64 * i + r; omega)]
      refine if_congr ?_ rfl rfl
      constructor <;> intro <;> omega

/-- The deviation of the window ending 16 terms after `t`, from its sums with the rests of the terms and of their
    squares; 0 where the window leaves the row. -/
def devAt (g : ℕ → EReal) (t : ℕ) : EReal :=
  if t < 15 ∨ 16368 ≤ t then 0
  else devK (win g t + win (fun n => g n - g n) t)
    (win (fun n => g n * g n) t + win (fun n => g n * g n - g n * g n) t)

/-- A row of a block as a signal over the naturals (0 past its end, which no window reaches). -/
def signal (x0 : Vec Ideal S64x16384 .f32) (r : Fin 64) (n : ℕ) : EReal :=
  if h : n < 16384 then x0 (ix2 r ⟨n, h⟩) else 0

/-- **One step's deviations.** At row `64·i + r`, lane `l`: the deviation of row `r`'s window at term `256·i + l`. -/
theorem pay137_apply (x0 : Vec Ideal S64x16384 .f32) (x1 : Vec Ideal S512x256 .f32) (x2 x3 : Vec Ideal S256x128 .f32)
    (hB : Bands x1 x2 x3) (i : ℕ) (hi : i < 64) (r : Fin 64) (l : Fin 256) :
    k0_pay137 (F := Ideal) x0 x1 x2 x3 (ix2 ⟨64 * i + r, by omega⟩ l) = devAt (signal x0 r) (256 * i + l) := by
  have hv : ∀ (i : ℕ) (hi : i < 64) (c : Fin 256),
      chunks x0 (ix2 ⟨64 * i + r, by omega⟩ c) = signal x0 r (256 * i + c) := by
    intro i hi c
    rw [chunks_apply x0 i hi r c, signal, dif_pos (by omega)]
  rw [pay137_eq, edges_apply _ i hi r r.isLt l, devAt]
  split
  · rfl
  · rename_i h
    rw [dev_apply, banded_win (chunks x0) x1 x2 x3 hB (signal x0 r) r r.isLt hv i hi l (by omega) (by omega),
      banded_win (mulf (chunks x0) (chunks x0)) x1 x2 x3 hB (fun n => signal x0 r n * signal x0 r n) r r.isLt
        (fun i hi c => by
          rw [← hv i hi c]
          rfl) i hi l (by omega) (by omega)]

/-- The decision against the threshold, index by index. -/
theorem pay138_apply (x0 : Vec Ideal S64x16384 .f32) (x1 : Vec Ideal S512x256 .f32) (x2 x3 : Vec Ideal S256x128 .f32)
    (ρ : Fin 4096) (l : Fin 256) :
    k0_pay138 (F := Ideal) x0 x1 x2 x3 (ix2 ρ l)
      = if ((9227469 / 8388608 : ℝ) : EReal) < k0_pay137 (F := Ideal) x0 x1 x2 x3 (ix2 ρ l) then 1 else 0 := by
  pointwise [k0_pay138, k0_pay8]
  rw [word_th]

end Cert.WindowStd

end

end
-- ==== Proof.Block.lean ====
/-
  The two blocks one grid step stores: 64 stores of 64×256 lanes each, read back at one index of the block.
-/
module

public import proofs.«01_k».proof.Proof.Sigma

@[expose] public section

set_option maxRecDepth 16384

noncomputable section

open Idealize.ShloMosaic Cert.KernelIdeal Cert.KernelIdeal.Gen

namespace Cert.WindowStd

/-- Rows `64·i` to `64·i + 63` of a chunked array. -/
def strip (w : FVec Ideal S4096x256 .f32) (i : ℕ) (hi : i < 64) : FVec Ideal S64x256 .f32 :=
  extractStridedSlice S64x256 ![64 * i, 0] w ⟨rfl, fun a => by
    fin_cases a
    · show 64 * i + 64 ≤ 4096; omega
    · show 0 + 256 ≤ 256; omega⟩

/-- A strip at a row and a lane. -/
theorem strip_apply (w : FVec Ideal S4096x256 .f32) (i : ℕ) (hi : i < 64) (r : Fin 64) (l : Fin 256) :
    strip w i hi (ix2 r l) = w (ix2 ⟨64 * i + r, by omega⟩ l) := by
  refine congrArg w (funext fun a => Fin.ext ?_)
  fin_cases a
  · rfl
  · show 0 + (l : ℕ) = l; omega

/-- Where chunk `i` is stored fits the block. -/
theorem place_le (i : ℕ) (hi : i < 64) (a : Fin S64x16384.rank) :
    (![0, 256 * i] : Fin 2 → ℕ) a + S64x256.size a ≤ S64x16384.size a := by
  fin_cases a
  · show 0 + 64 ≤ 64; omega
  · show 256 * i + 256 ≤ 16384; omega

/-- The block the 64 strips of a chunked array make, the last chunk stored last. -/
def unchunk (w : FVec Ideal S4096x256 .f32) : Vec Ideal S64x16384 .f32 :=
  View.canon (List.ofFn fun k : Fin 64 =>
    (⟨Rect.unit (s := S64x16384) ![0, 256 * (63 - (k : ℕ))] S64x256.size (place_le (63 - k) (by omega)),
      strip w (63 - k) (by omega)⟩ : View.Piece (Elt Ideal) S64x16384 .f32))

/-- The block at row `r`, term `256·i + l`, is row `64·i + r`, lane `l` of the chunked array. -/
theorem unchunk_apply (w : FVec Ideal S4096x256 .f32) (i : ℕ) (hi : i < 64) (r : Fin 64) (l : Fin 256) :
    unchunk w (ix2 r ⟨256 * i + l, by omega⟩) = w (ix2 ⟨64 * i + r, by omega⟩ l) := by
  refine View.canon_ofFn_unit_eq_of_forall (Val := Elt Ideal) (S := S64x16384) (e := .f32) (fun k : Fin 64 => (![0, 256 * (63 - (k : ℕ))] : Fin 2 → ℕ)) S64x256.size
    (fun k => place_le (63 - k) (by omega)) (fun k => strip w (63 - k) (by omega)) _ _ ⟨⟨63 - i, by omega⟩, fun a => ?_⟩ fun k x hx => ?_
  · fin_cases a
    · exact ⟨Nat.zero_le _, by show (r : ℕ) < 0 + 64; omega⟩
    · constructor
      · show 256 * (63 - (63 - i)) ≤ 256 * i + (l : ℕ); omega
      · show 256 * i + (l : ℕ) < 256 * (63 - (63 - i)) + 256; omega
  · have h0 : (r : ℕ) = 0 + x 0 := hx 0
    have h1 : 256 * i + (l : ℕ) = 256 * (63 - (k : ℕ)) + x 1 := hx 1
    have hl : (x 1 : ℕ) < 256 := (x 1).isLt
    have hr : (x 0 : ℕ) < 64 := (x 0).isLt
    have hk : 63 - (k : ℕ) = i := by omega
    have e : x = ix2 (r : Fin 64) (l : Fin 256) := by
      funext a
      fin_cases a
      · exact Fin.ext (by show (x 0 : ℕ) = r; omega)
      · exact Fin.ext (by show (x 1 : ℕ) = l; omega)
    subst hk
    rw [e, strip_apply]

/-- The stored deviations. -/
theorem out5_eq (x0 : Vec Ideal S64x16384 .f32) (x1 : Vec Ideal S512x256 .f32) (x2 x3 : Vec Ideal S256x128 .f32) :
    out0_5 (F := Ideal) x0 x1 x2 x3 = unchunk (k0_pay137 x0 x1 x2 x3) := rfl

/-- The stored decisions. -/
theorem out4_eq (x0 : Vec Ideal S64x16384 .f32) (x1 : Vec Ideal S512x256 .f32) (x2 x3 : Vec Ideal S256x128 .f32) :
    out0_4 (F := Ideal) x0 x1 x2 x3 = unchunk (k0_pay138 x0 x1 x2 x3) := rfl

/-- A term's number as chunk and lane. -/
theorem term_split (r : Fin 64) (t : Fin 16384) :
    (ix2 r t : S64x16384.Idx) = ix2 r ⟨256 * ((t : ℕ) / 256) + (⟨(t : ℕ) % 256, by omega⟩ : Fin 256), by
      show 256 * ((t : ℕ) / 256) + (t : ℕ) % 256 < 16384; omega⟩ := by
  congr 1
  exact Fin.ext (by show (t : ℕ) = 256 * ((t : ℕ) / 256) + (t : ℕ) % 256; omega)

/-- **The stored deviations at an index**: the deviation of the row's window at that term. -/
theorem out5_apply (x0 : Vec Ideal S64x16384 .f32) (x1 : Vec Ideal S512x256 .f32) (x2 x3 : Vec Ideal S256x128 .f32)
    (hB : Bands x1 x2 x3) (r : Fin 64) (t : Fin 16384) :
    out0_5 (F := Ideal) x0 x1 x2 x3 (ix2 r t) = devAt (signal x0 r) t := by
  rw [out5_eq, term_split, unchunk_apply _ ((t : ℕ) / 256) (by omega), pay137_apply x0 x1 x2 x3 hB _ (by omega)]
  congr 1
  show 256 * ((t : ℕ) / 256) + (t : ℕ) % 256 = t
  omega

/-- **The stored decisions at an index**: 1 where that deviation exceeds the threshold, 0 elsewhere. -/
theorem out4_apply (x0 : Vec Ideal S64x16384 .f32) (x1 : Vec Ideal S512x256 .f32) (x2 x3 : Vec Ideal S256x128 .f32)
    (hB : Bands x1 x2 x3) (r : Fin 64) (t : Fin 16384) :
    out0_4 (F := Ideal) x0 x1 x2 x3 (ix2 r t)
      = if ((9227469 / 8388608 : ℝ) : EReal) < devAt (signal x0 r) t then 1 else 0 := by
  rw [← out5_apply x0 x1 x2 x3 hB r t, out5_eq, out4_eq, term_split, unchunk_apply _ ((t : ℕ) / 256) (by omega),
    unchunk_apply _ ((t : ℕ) / 256) (by omega), pay138_apply]

end Cert.WindowStd

end

end
-- ==== Proof.Row.lean ====
/-
  A row of the argument array as a signal.
-/
module

public import Idealize.ShloMosaic.Lib.Pointwise

@[expose] public section

open Idealize.ShloMosaic

namespace Cert.WindowStd

/-- A row of the whole array as a signal over the naturals (0 past its end, which no window reaches). -/
noncomputable def row (x : (⟨2, ![2048, 16384]⟩ : Shape).Idx → EReal) (b : Fin 2048) (n : ℕ) : EReal :=
  if h : n < 16384 then x (ix2 b ⟨n, h⟩) else 0

end Cert.WindowStd

end
-- ==== Proof.Bands.Entry.lean ====
/-
  The three 0/1 tables the kernel multiplies by, as formulas in the row and the column, and what it means that eight (or
  sixteen) consecutive rows of a printed table are those of the formula.
-/
module

public import proofs.«01_k».proof.KernelIdeal

@[expose] public section

open Cert.KernelIdeal

namespace Cert.WindowStd

/-- A one bit as a binary32 word: 1.0 where the condition holds, 0.0 elsewhere. -/
abbrev word (p : Bool) : BitVec 32 := bif p then 0x3F800000#32 else 0x00000000#32

/-- Position `k` of a chunk is in the window of lane `l` of that chunk (two copies of the table, one under the other). -/
abbrev inV (k l : ℕ) : Bool := Nat.ble l (k % 256 + 15) && Nat.ble (k % 256) (l + 16)

/-- Position `128 + k` of the chunk before is in the window of lane `l` (two copies again). -/
abbrev inM (k l : ℕ) : Bool := Nat.ble (l + 128) (k % 128 + 15)

/-- Position `k` of the chunk after is in the window of lane `128 + l` (two copies again). -/
abbrev inP (k l : ℕ) : Bool := Nat.ble (k % 128 + 112) l

/-- Rows `8 j` to `8 j + 7` of the first table are the formula's. -/
abbrev RowsV (j : ℕ) : Prop :=
  ∀ k : Fin 8, ∀ l : Fin 256, lit0t ((8 * j + k) * 256 + l) = word (inV (8 * j + k) l)

/-- Rows `16 j` to `16 j + 15` of the second table are the formula's. -/
abbrev RowsM (j : ℕ) : Prop :=
  ∀ k : Fin 16, ∀ l : Fin 128, lit1t ((16 * j + k) * 128 + l) = word (inM (16 * j + k) l)

/-- Rows `16 j` to `16 j + 15` of the third table are the formula's. -/
abbrev RowsP (j : ℕ) : Prop :=
  ∀ k : Fin 16, ∀ l : Fin 128, lit2t ((16 * j + k) * 128 + l) = word (inP (16 * j + k) l)

end Cert.WindowStd

end
-- ==== Proof.Bands.Part1.lean ====
/-
  Rows of the printed tables read off and compared with the formula, a few at a time: part 1 of 8. Each theorem states
  that the group of consecutive rows with its number is the formula's (`RowsV`, `RowsM`, `RowsP`: one for each table).
-/
module

public import proofs.«01_k».proof.Proof.Bands.Entry

@[expose] public section

namespace Cert.WindowStd

theorem rowsV_0 : RowsV 0 := by decide +kernel
theorem rowsV_1 : RowsV 1 := by decide +kernel
theorem rowsV_2 : RowsV 2 := by decide +kernel
theorem rowsV_3 : RowsV 3 := by decide +kernel
theorem rowsV_4 : RowsV 4 := by decide +kernel
theorem rowsV_5 : RowsV 5 := by decide +kernel
theorem rowsV_6 : RowsV 6 := by decide +kernel
theorem rowsV_7 : RowsV 7 := by decide +kernel
theorem rowsV_8 : RowsV 8 := by decide +kernel
theorem rowsV_9 : RowsV 9 := by decide +kernel
theorem rowsV_10 : RowsV 10 := by decide +kernel
theorem rowsV_11 : RowsV 11 := by decide +kernel

end Cert.WindowStd

end
-- ==== Proof.Bands.Part2.lean ====
/-
  Rows of the printed tables read off and compared with the formula, a few at a time: part 2 of 8. Each theorem states
  that the group of consecutive rows with its number is the formula's (`RowsV`, `RowsM`, `RowsP`: one for each table).
-/
module

public import proofs.«01_k».proof.Proof.Bands.Entry

@[expose] public section

namespace Cert.WindowStd

theorem rowsV_12 : RowsV 12 := by decide +kernel
theorem rowsV_13 : RowsV 13 := by decide +kernel
theorem rowsV_14 : RowsV 14 := by decide +kernel
theorem rowsV_15 : RowsV 15 := by decide +kernel
theorem rowsV_16 : RowsV 16 := by decide +kernel
theorem rowsV_17 : RowsV 17 := by decide +kernel
theorem rowsV_18 : RowsV 18 := by decide +kernel
theorem rowsV_19 : RowsV 19 := by decide +kernel
theorem rowsV_20 : RowsV 20 := by decide +kernel
theorem rowsV_21 : RowsV 21 := by decide +kernel
theorem rowsV_22 : RowsV 22 := by decide +kernel
theorem rowsV_23 : RowsV 23 := by decide +kernel

end Cert.WindowStd

end
-- ==== Proof.Bands.Part3.lean ====
/-
  Rows of the printed tables read off and compared with the formula, a few at a time: part 3 of 8. Each theorem states
  that the group of consecutive rows with its number is the formula's (`RowsV`, `RowsM`, `RowsP`: one for each table).
-/
module

public import proofs.«01_k».proof.Proof.Bands.Entry

@[expose] public section

namespace Cert.WindowStd

theorem rowsV_24 : RowsV 24 := by decide +kernel
theorem rowsV_25 : RowsV 25 := by decide +kernel
theorem rowsV_26 : RowsV 26 := by decide +kernel
theorem rowsV_27 : RowsV 27 := by decide +kernel
theorem rowsV_28 : RowsV 28 := by decide +kernel
theorem rowsV_29 : RowsV 29 := by decide +kernel
theorem rowsV_30 : RowsV 30 := by decide +kernel
theorem rowsV_31 : RowsV 31 := by decide +kernel
theorem rowsV_32 : RowsV 32 := by decide +kernel
theorem rowsV_33 : RowsV 33 := by decide +kernel
theorem rowsV_34 : RowsV 34 := by decide +kernel
theorem rowsV_35 : RowsV 35 := by decide +kernel

end Cert.WindowStd

end
-- ==== Proof.Bands.Part4.lean ====
/-
  Rows of the printed tables read off and compared with the formula, a few at a time: part 4 of 8. Each theorem states
  that the group of consecutive rows with its number is the formula's (`RowsV`, `RowsM`, `RowsP`: one for each table).
-/
module

public import proofs.«01_k».proof.Proof.Bands.Entry

@[expose] public section

namespace Cert.WindowStd

theorem rowsV_36 : RowsV 36 := by decide +kernel
theorem rowsV_37 : RowsV 37 := by decide +kernel
theorem rowsV_38 : RowsV 38 := by decide +kernel
theorem rowsV_39 : RowsV 39 := by decide +kernel
theorem rowsV_40 : RowsV 40 := by decide +kernel
theorem rowsV_41 : RowsV 41 := by decide +kernel
theorem rowsV_42 : RowsV 42 := by decide +kernel
theorem rowsV_43 : RowsV 43 := by decide +kernel
theorem rowsV_44 : RowsV 44 := by decide +kernel
theorem rowsV_45 : RowsV 45 := by decide +kernel
theorem rowsV_46 : RowsV 46 := by decide +kernel
theorem rowsV_47 : RowsV 47 := by decide +kernel

end Cert.WindowStd

end
-- ==== Proof.Bands.Part5.lean ====
/-
  Rows of the printed tables read off and compared with the formula, a few at a time: part 5 of 8. Each theorem states
  that the group of consecutive rows with its number is the formula's (`RowsV`, `RowsM`, `RowsP`: one for each table).
-/
module

public import proofs.«01_k».proof.Proof.Bands.Entry

@[expose] public section

namespace Cert.WindowStd

theorem rowsV_48 : RowsV 48 := by decide +kernel
theorem rowsV_49 : RowsV 49 := by decide +kernel
theorem rowsV_50 : RowsV 50 := by decide +kernel
theorem rowsV_51 : RowsV 51 := by decide +kernel
theorem rowsV_52 : RowsV 52 := by decide +kernel
theorem rowsV_53 : RowsV 53 := by decide +kernel
theorem rowsV_54 : RowsV 54 := by decide +kernel
theorem rowsV_55 : RowsV 55 := by decide +kernel
theorem rowsV_56 : RowsV 56 := by decide +kernel
theorem rowsV_57 : RowsV 57 := by decide +kernel
theorem rowsV_58 : RowsV 58 := by decide +kernel
theorem rowsV_59 : RowsV 59 := by decide +kernel

end Cert.WindowStd

end
-- ==== Proof.Bands.Part6.lean ====
/-
  Rows of the printed tables read off and compared with the formula, a few at a time: part 6 of 8. Each theorem states
  that the group of consecutive rows with its number is the formula's (`RowsV`, `RowsM`, `RowsP`: one for each table).
-/
module

public import proofs.«01_k».proof.Proof.Bands.Entry

@[expose] public section

namespace Cert.WindowStd

theorem rowsV_60 : RowsV 60 := by decide +kernel
theorem rowsV_61 : RowsV 61 := by decide +kernel
theorem rowsV_62 : RowsV 62 := by decide +kernel
theorem rowsV_63 : RowsV 63 := by decide +kernel
theorem rowsM_0 : RowsM 0 := by decide +kernel
theorem rowsM_1 : RowsM 1 := by decide +kernel
theorem rowsM_2 : RowsM 2 := by decide +kernel
theorem rowsM_3 : RowsM 3 := by decide +kernel
theorem rowsM_4 : RowsM 4 := by decide +kernel
theorem rowsM_5 : RowsM 5 := by decide +kernel
theorem rowsM_6 : RowsM 6 := by decide +kernel
theorem rowsM_7 : RowsM 7 := by decide +kernel

end Cert.WindowStd

end
-- ==== Proof.Bands.Part7.lean ====
/-
  Rows of the printed tables read off and compared with the formula, a few at a time: part 7 of 8. Each theorem states
  that the group of consecutive rows with its number is the formula's (`RowsV`, `RowsM`, `RowsP`: one for each table).
-/
module

public import proofs.«01_k».proof.Proof.Bands.Entry

@[expose] public section

namespace Cert.WindowStd

theorem rowsM_8 : RowsM 8 := by decide +kernel
theorem rowsM_9 : RowsM 9 := by decide +kernel
theorem rowsM_10 : RowsM 10 := by decide +kernel
theorem rowsM_11 : RowsM 11 := by decide +kernel
theorem rowsM_12 : RowsM 12 := by decide +kernel
theorem rowsM_13 : RowsM 13 := by decide +kernel
theorem rowsM_14 : RowsM 14 := by decide +kernel
theorem rowsM_15 : RowsM 15 := by decide +kernel
theorem rowsP_0 : RowsP 0 := by decide +kernel
theorem rowsP_1 : RowsP 1 := by decide +kernel
theorem rowsP_2 : RowsP 2 := by decide +kernel
theorem rowsP_3 : RowsP 3 := by decide +kernel

end Cert.WindowStd

end
-- ==== Proof.Bands.Part8.lean ====
/-
  Rows of the printed tables read off and compared with the formula, a few at a time: part 8 of 8. Each theorem states
  that the group of consecutive rows with its number is the formula's (`RowsV`, `RowsM`, `RowsP`: one for each table).
-/
module

public import proofs.«01_k».proof.Proof.Bands.Entry

@[expose] public section

namespace Cert.WindowStd

theorem rowsP_4 : RowsP 4 := by decide +kernel
theorem rowsP_5 : RowsP 5 := by decide +kernel
theorem rowsP_6 : RowsP 6 := by decide +kernel
theorem rowsP_7 : RowsP 7 := by decide +kernel
theorem rowsP_8 : RowsP 8 := by decide +kernel
theorem rowsP_9 : RowsP 9 := by decide +kernel
theorem rowsP_10 : RowsP 10 := by decide +kernel
theorem rowsP_11 : RowsP 11 := by decide +kernel
theorem rowsP_12 : RowsP 12 := by decide +kernel
theorem rowsP_13 : RowsP 13 := by decide +kernel
theorem rowsP_14 : RowsP 14 := by decide +kernel
theorem rowsP_15 : RowsP 15 := by decide +kernel

end Cert.WindowStd

end
-- ==== Proof.Bands.Tables.lean ====
/-
  The printed tables are the formulas, at every row and column.
-/
module

public import proofs.«01_k».proof.Proof.Bands.Part1
public import proofs.«01_k».proof.Proof.Bands.Part2
public import proofs.«01_k».proof.Proof.Bands.Part3
public import proofs.«01_k».proof.Proof.Bands.Part4
public import proofs.«01_k».proof.Proof.Bands.Part5
public import proofs.«01_k».proof.Proof.Bands.Part6
public import proofs.«01_k».proof.Proof.Bands.Part7
public import proofs.«01_k».proof.Proof.Bands.Part8

@[expose] public section

open Cert.KernelIdeal

namespace Cert.WindowStd

/-- Every block of rows of table V is the formula's. -/
theorem rowsV : ∀ j, j < 64 → RowsV j
  | 0, _ => rowsV_0
  | 1, _ => rowsV_1
  | 2, _ => rowsV_2
  | 3, _ => rowsV_3
  | 4, _ => rowsV_4
  | 5, _ => rowsV_5
  | 6, _ => rowsV_6
  | 7, _ => rowsV_7
  | 8, _ => rowsV_8
  | 9, _ => rowsV_9
  | 10, _ => rowsV_10
  | 11, _ => rowsV_11
  | 12, _ => rowsV_12
  | 13, _ => rowsV_13
  | 14, _ => rowsV_14
  | 15, _ => rowsV_15
  | 16, _ => rowsV_16
  | 17, _ => rowsV_17
  | 18, _ => rowsV_18
  | 19, _ => rowsV_19
  | 20, _ => rowsV_20
  | 21, _ => rowsV_21
  | 22, _ => rowsV_22
  | 23, _ => rowsV_23
  | 24, _ => rowsV_24
  | 25, _ => rowsV_25
  | 26, _ => rowsV_26
  | 27, _ => rowsV_27
  | 28, _ => rowsV_28
  | 29, _ => rowsV_29
  | 30, _ => rowsV_30
  | 31, _ => rowsV_31
  | 32, _ => rowsV_32
  | 33, _ => rowsV_33
  | 34, _ => rowsV_34
  | 35, _ => rowsV_35
  | 36, _ => rowsV_36
  | 37, _ => rowsV_37
  | 38, _ => rowsV_38
  | 39, _ => rowsV_39
  | 40, _ => rowsV_40
  | 41, _ => rowsV_41
  | 42, _ => rowsV_42
  | 43, _ => rowsV_43
  | 44, _ => rowsV_44
  | 45, _ => rowsV_45
  | 46, _ => rowsV_46
  | 47, _ => rowsV_47
  | 48, _ => rowsV_48
  | 49, _ => rowsV_49
  | 50, _ => rowsV_50
  | 51, _ => rowsV_51
  | 52, _ => rowsV_52
  | 53, _ => rowsV_53
  | 54, _ => rowsV_54
  | 55, _ => rowsV_55
  | 56, _ => rowsV_56
  | 57, _ => rowsV_57
  | 58, _ => rowsV_58
  | 59, _ => rowsV_59
  | 60, _ => rowsV_60
  | 61, _ => rowsV_61
  | 62, _ => rowsV_62
  | 63, _ => rowsV_63
  | _ + 64, h => absurd h (by omega)

/-- Every block of rows of table M is the formula's. -/
theorem rowsM : ∀ j, j < 16 → RowsM j
  | 0, _ => rowsM_0
  | 1, _ => rowsM_1
  | 2, _ => rowsM_2
  | 3, _ => rowsM_3
  | 4, _ => rowsM_4
  | 5, _ => rowsM_5
  | 6, _ => rowsM_6
  | 7, _ => rowsM_7
  | 8, _ => rowsM_8
  | 9, _ => rowsM_9
  | 10, _ => rowsM_10
  | 11, _ => rowsM_11
  | 12, _ => rowsM_12
  | 13, _ => rowsM_13
  | 14, _ => rowsM_14
  | 15, _ => rowsM_15
  | _ + 16, h => absurd h (by omega)

/-- Every block of rows of table P is the formula's. -/
theorem rowsP : ∀ j, j < 16 → RowsP j
  | 0, _ => rowsP_0
  | 1, _ => rowsP_1
  | 2, _ => rowsP_2
  | 3, _ => rowsP_3
  | 4, _ => rowsP_4
  | 5, _ => rowsP_5
  | 6, _ => rowsP_6
  | 7, _ => rowsP_7
  | 8, _ => rowsP_8
  | 9, _ => rowsP_9
  | 10, _ => rowsP_10
  | 11, _ => rowsP_11
  | 12, _ => rowsP_12
  | 13, _ => rowsP_13
  | 14, _ => rowsP_14
  | 15, _ => rowsP_15
  | _ + 16, h => absurd h (by omega)

/-- The first table at row `k`, column `l`. -/
theorem tableV (k : Fin 512) (l : Fin 256) : lit0t (k * 256 + l) = word (inV k l) := by
  have h := rowsV (k / 8) (by omega) ⟨k % 8, by omega⟩ l
  have e : 8 * ((k : ℕ) / 8) + (k : ℕ) % 8 = k := by omega
  simpa only [e] using h

/-- The second table at row `k`, column `l`. -/
theorem tableM (k : Fin 256) (l : Fin 128) : lit1t (k * 128 + l) = word (inM k l) := by
  have h := rowsM (k / 16) (by omega) ⟨k % 16, by omega⟩ l
  have e : 16 * ((k : ℕ) / 16) + (k : ℕ) % 16 = k := by omega
  simpa only [e] using h

/-- The third table at row `k`, column `l`. -/
theorem tableP (k : Fin 256) (l : Fin 128) : lit2t (k * 128 + l) = word (inP k l) := by
  have h := rowsP (k / 16) (by omega) ⟨k % 16, by omega⟩ l
  have e : 16 * ((k : ℕ) / 16) + (k : ℕ) % 16 = k := by omega
  simpa only [e] using h

end Cert.WindowStd

end
-- ==== Proof.Arrays.lean ====
/-
  The two result arrays after the run, index by index, in terms of the argument array.
-/
module

public import proofs.«01_k».proof.Proof.Block
public import proofs.«01_k».proof.Proof.Row
public import proofs.«01_k».proof.Proof.Bands.Tables
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem Cert.KernelIdeal Cert.KernelIdeal.Gen

namespace Cert.WindowStd

variable (m : (ℓ : Loc nD τ sig) → Buf (Elt Ideal) ℓ)

/-- The windows' block indices at a grid point: the argument and both results move down by one block of 64 rows per
    point; the tables stay. -/
theorem idx_facts : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0)
      ∧ (win0_4.index t 0 = t.val ∧ win0_4.index t 1 = 0) ∧ (win0_5.index t 0 = t.val ∧ win0_5.index t 1 = 0))

/-- The word of a bit is that bit as a number. -/
theorem ofBits_word (p : Bool) : Ideal.ofBits .f32 (word p) = if p = true then 1 else 0 := by
  cases p
  · exact Ideal.ofBits_zero_f32
  · exact Ideal.ofBits_one_f32

/-- What the region finds in the first table's buffer. -/
theorem entry1 (c : Dev nD) (k : Fin 512) (l : Fin 256) :
    V m c main_call0_cst (ix2 k l) = Ideal.ofBits .f32 (lit0t (k * 256 + l)) := by
  have e : (V m c main_call0_cst : FVec Ideal S512x256 .f32) = fun i => FloatOps.ofBits (F := Ideal) .f32 (lit0 (S512x256.rowMajor i)) := by
    entry_read
    rfl
  have q : (S512x256.rowMajor (ix2 k l)).val = k * 256 + l := by
    rw [Shape.rowMajor_val_two]
    rfl
  rw [e, ← q]
  rfl

/-- What the region finds in the second table's buffer. -/
theorem entry2 (c : Dev nD) (k : Fin 256) (l : Fin 128) :
    V m c main_call0_cst_0 (ix2 k l) = Ideal.ofBits .f32 (lit1t (k * 128 + l)) := by
  have e : (V m c main_call0_cst_0 : FVec Ideal S256x128 .f32) = fun i => FloatOps.ofBits (F := Ideal) .f32 (lit1 (S256x128.rowMajor i)) := by
    entry_read
    rfl
  have q : (S256x128.rowMajor (ix2 k l)).val = k * 128 + l := by
    rw [Shape.rowMajor_val_two]
    rfl
  rw [e, ← q]
  rfl

/-- What the region finds in the third table's buffer. -/
theorem entry3 (c : Dev nD) (k : Fin 256) (l : Fin 128) :
    V m c main_call0_cst_1 (ix2 k l) = Ideal.ofBits .f32 (lit2t (k * 128 + l)) := by
  have e : (V m c main_call0_cst_1 : FVec Ideal S256x128 .f32) = fun i => FloatOps.ofBits (F := Ideal) .f32 (lit2 (S256x128.rowMajor i)) := by
    entry_read
    rfl
  have q : (S256x128.rowMajor (ix2 k l)).val = k * 128 + l := by
    rw [Shape.rowMajor_val_two]
    rfl
  rw [e, ← q]
  rfl

/-- At every grid point the three table blocks are the tables of the 0/1 conditions. -/
theorem bands (c : Dev nD) (t : Fin cfg0.N) : Bands (iblk m c 1 t) (iblk m c 2 t) (iblk m c 3 t) where
  own k l := by
    have e : iblk m c 1 t (ix2 k l) = V m c main_call0_cst (ix2 k l) := by blk_ext [iblk, idx_facts t]
    refine e.trans ((entry1 m c k l).trans ?_)
    rw [tableV, ofBits_word]
    simp [inV]
  prev k l := by
    have e : iblk m c 2 t (ix2 k l) = V m c main_call0_cst_0 (ix2 k l) := by blk_ext [iblk, idx_facts t]
    refine e.trans ((entry2 m c k l).trans ?_)
    rw [tableM, ofBits_word]
    simp [inM]
  next k l := by
    have e : iblk m c 3 t (ix2 k l) = V m c main_call0_cst_1 (ix2 k l) := by blk_ext [iblk, idx_facts t]
    refine e.trans ((entry3 m c k l).trans ?_)
    rw [tableP, ofBits_word]
    simp [inP]

/-- Row `r` of the block at point `t` is row `64·t + r` of the argument. -/
theorem signal_iblk (c : Dev nD) (t : Fin cfg0.N) (r : Fin 64) (b : Fin 2048) (hb : (b : ℕ) = t.val * 64 + r) :
    signal (iblk m c 0 t) r = row (m ((c.tc : Thread nD τ).loc main_arg0)) b := by
  funext n
  unfold signal row
  split
  · rename_i h
    have e : iblk m c 0 t (ix2 r ⟨n, h⟩) = m ((c.tc : Thread nD τ).loc main_arg0) (ix2 b ⟨n, h⟩) := by
      blk_ext [iblk, V, idx_facts t]
    exact e
  · rfl

/-- **The second result array after the run**: every entry is the deviation of its row's window at that term. -/
theorem final5 (c : Dev nD) : (dats m 0 c).arrAt 5 cfg0.N
    = fun i : S2048x16384.Idx => devAt (row (m ((c.tc : Thread nD τ).loc main_arg0)) (i 0)) (i 1) := by
  refine (dats m 0 c).arrAt_eq_of_covers 5 _ (by decide +kernel) fun t hf y => ?_
  blk_simp
  rw [after0_5]
  have hb : ((win0_5.blk t).view.emb y 0 : ℕ) = t.val * 64 + (y 0 : Fin 64) := by blk_simp [idx_facts t]
  have ht : win0_5.index t 1 * 16384 + (y 1 : ℕ) = (y 1 : Fin 16384) := by rw [(idx_facts t).2.2.2.2.2.2]; omega
  rw [ht, ← signal_iblk m c t (y 0) _ hb]
  refine Eq.trans (congrArg _ ?_) (out5_apply _ _ _ _ (bands m c t) (y 0) (y 1))
  blk_ext

/-- **The first result array after the run**: 1 where that deviation exceeds the threshold, 0 elsewhere. -/
theorem final4 (c : Dev nD) : (dats m 0 c).arrAt 4 cfg0.N
    = fun i : S2048x16384.Idx =>
        if ((9227469 / 8388608 : ℝ) : EReal) < devAt (row (m ((c.tc : Thread nD τ).loc main_arg0)) (i 0)) (i 1)
        then (1 : EReal) else 0 := by
  refine (dats m 0 c).arrAt_eq_of_covers 4 _ (by decide +kernel) fun t hf y => ?_
  blk_simp
  rw [after0_4]
  have hb : ((win0_4.blk t).view.emb y 0 : ℕ) = t.val * 64 + (y 0 : Fin 64) := by blk_simp [idx_facts t]
  have ht : win0_4.index t 1 * 16384 + (y 1 : ℕ) = (y 1 : Fin 16384) := by rw [(idx_facts t).2.2.2.2.1.2]; omega
  rw [ht, ← signal_iblk m c t (y 0) _ hb]
  refine Eq.trans (congrArg _ ?_) (out4_apply _ _ _ _ (bands m c t) (y 0) (y 1))
  blk_ext

end Cert.WindowStd

end

end
-- ==== Proof.RefOps.lean ====
/-
  The reference's operations as a list: two zero arrays, 32 steps of four operations each (slice, add, square, add), and
  the operations that follow. The 32 steps are one definition with the step's number as its argument: the buffers of
  step `k` are numbers 4k + 5 to 4k + 8, and it reads the running sums from numbers 4k + 2 and 4k + 4.
-/
module

public import proofs.«01_k».proof.Proof.Gen.ReferenceIdeal
public import Idealize.ShloMosaic.Lib.StableHlo.Run

@[expose] public section

set_option maxRecDepth 16384

noncomputable section

open Cert.ReferenceIdeal Cert.ReferenceIdeal.Gen Idealize.ShloMosaic Idealize.ShloMosaic.TcCoe Idealize.SL.Sem
  Idealize.ShloMosaic.StableHlo

namespace Cert.WindowStd.Ref

variable {F : FTy → Type} [FloatOps F]

/-- Buffer number `n` of the reference. -/
abbrev buf (n : ℕ) (h : n < 162) : Ref sig .tc := ⟨.hbm, ⟨n, h⟩, rfl⟩

/-- The type of the running sums: one entry per full window of a row. -/
abbrev Sums : BufTy := ⟨S2048x16353, .f32⟩

/-- The buffers that hold the running sums after `k` steps have the type of the running sums. -/
theorem sum_ty : ∀ k : Fin 33, (buf (4 * k + 2) (by omega)).ty = Sums ∧ (buf (4 * k + 4) (by omega)).ty = Sums := by
  intro k
  fin_cases k <;> exact ⟨rfl, rfl⟩

/-- So have the buffers of the slice and of its square in step `k`. -/
theorem tmp_ty : ∀ k : Fin 32, (buf (4 * k + 5) (by omega)).ty = Sums ∧ (buf (4 * k + 7) (by omega)).ty = Sums := by
  intro k
  fin_cases k <;> exact ⟨rfl, rfl⟩

/-- A buffer of the running sums' type, as a typed reference. -/
abbrev cell (n : ℕ) (h : n < 162) (e : (buf n h).ty = Sums) : TRef sig Sums := ⟨buf n h, e, fun q => Space.noConfusion q, rfl⟩

/-- The argument as a typed reference. -/
abbrev arg : TRef sig ⟨S2048x16384, .f32⟩ := .of main_arg0

/-- Every window of 16353 columns that starts at one of the columns 0 to 31 lies inside a row. -/
theorem slices (k : Fin 32) : S2048x16384.Slices ![0, (k : ℕ)] S2048x16353 := by
  revert k; decide

/-- The two zero arrays. -/
abbrev opsInit : List (HloOp τ sig (Elt F)) :=
  [ nullary main_cst (constant S_ .f32 0x00000000#32),
    unary main_cst main_v0 (broadcastInDim S2048x16353 ![] bcast_S_S2048x16353 : (⟨S_, .f32⟩ : BufTy).Contents (Elt F) → Sums.Contents (Elt F)),
    nullary main_cst_0 (constant S_ .f32 0x00000000#32),
    unary main_cst_0 main_v1 (broadcastInDim S2048x16353 ![] bcast_S_S2048x16353 : (⟨S_, .f32⟩ : BufTy).Contents (Elt F) → Sums.Contents (Elt F)) ]

/-- The first running sum after `k` steps. -/
abbrev sumRef (k : ℕ) (h : k < 33) : TRef sig Sums := cell (4 * k + 2) (by omega) (sum_ty ⟨k, h⟩).1

/-- The second running sum after `k` steps. -/
abbrev sqSumRef (k : ℕ) (h : k < 33) : TRef sig Sums := cell (4 * k + 4) (by omega) (sum_ty ⟨k, h⟩).2

/-- The slice of step `k`. -/
abbrev sliceRef (k : ℕ) (h : k < 32) : TRef sig Sums := cell (4 * k + 5) (by omega) (tmp_ty ⟨k, h⟩).1

/-- The squared slice of step `k`. -/
abbrev squareRef (k : ℕ) (h : k < 32) : TRef sig Sums := cell (4 * k + 7) (by omega) (tmp_ty ⟨k, h⟩).2

/-- Step `k`: the argument's columns from `k` on, added to the first running sum, and their squares, added to the
    second. -/
def tap (k : ℕ) (h : k < 32) : List (HloOp τ sig (Elt F)) :=
  [ TRef.unary arg (sliceRef k h) (extractStridedSlice S2048x16353 ![0, k] · (slices ⟨k, h⟩)),
    TRef.binary (sumRef k (by omega)) (sliceRef k h) (sumRef (k + 1) (by omega)) (addf (F := F) (s := S2048x16353) (φ := .f32)),
    TRef.binary (sliceRef k h) (sliceRef k h) (squareRef k h) (mulf (F := F) (s := S2048x16353) (φ := .f32)),
    TRef.binary (sqSumRef k (by omega)) (squareRef k h) (sqSumRef (k + 1) (by omega)) (addf (F := F) (s := S2048x16353) (φ := .f32)) ]

/-- The `n` steps from step `k` on. -/
def taps : (n k : ℕ) → k + n ≤ 32 → List (HloOp τ sig (Elt F))
  | 0, _, _ => []
  | n + 1, k, h => tap k (by omega) ++ taps n (k + 1) (by omega)

/-- The operations after the steps: mean and variance, the root, the padding, and the hard threshold with its
    straight-through form. -/
abbrev opsEnd : List (HloOp τ sig (Elt F)) :=
  [ nullary main_cst_1 (constant S_ .f32 0x42000000#32),
    unary main_cst_1 main_v130 (broadcastInDim S2048x16353 ![] bcast_S_S2048x16353 : (⟨S_, .f32⟩ : BufTy).Contents (Elt F) → Sums.Contents (Elt F)),
    binary main_v127 main_v130 main_v131 (Host.divf : Sums.Contents (Elt F) → Sums.Contents (Elt F) → Sums.Contents (Elt F)),
    nullary main_cst_2 (constant S_ .f32 0x42000000#32),
    unary main_cst_2 main_v132 (broadcastInDim S2048x16353 ![] bcast_S_S2048x16353 : (⟨S_, .f32⟩ : BufTy).Contents (Elt F) → Sums.Contents (Elt F)),
    binary main_v129 main_v132 main_v133 (Host.divf : Sums.Contents (Elt F) → Sums.Contents (Elt F) → Sums.Contents (Elt F)),
    binary main_v131 main_v131 main_v134 (mulf : Sums.Contents (Elt F) → Sums.Contents (Elt F) → Sums.Contents (Elt F)),
    binary main_v133 main_v134 main_v135 (subf : Sums.Contents (Elt F) → Sums.Contents (Elt F) → Sums.Contents (Elt F)),
    nullary main_cst_3 (constant S_ .f32 0x00000000#32),
    unary main_cst_3 main_v136 (broadcastInDim S2048x16353 ![] bcast_S_S2048x16353 : (⟨S_, .f32⟩ : BufTy).Contents (Elt F) → Sums.Contents (Elt F)),
    binary main_v135 main_v136 main_v137 (maximumf : Sums.Contents (Elt F) → Sums.Contents (Elt F) → Sums.Contents (Elt F)),
    unary main_v137 main_v138 (Host.sqrt : Sums.Contents (Elt F) → Sums.Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2048x16353, .f32⟩) main_v138) (TRef.of (T := ⟨S_, .f32⟩) main_call0_v0) (TRef.of (T := ⟨S2048x16384, .f32⟩) main_v139) (fun x v => pad S2048x16384 ![0, 15] ![0, 16] ![0, 0] x v pads_S2048x16353_S2048x16384_000_15160 h_S_),
    nullary main_cst_4 (constant S_ .f32 0x400CCCCD#32),
    unary main_cst_4 main_v140 (broadcastInDim S2048x16384 ![] bcast_S_S2048x16384 : (⟨S_, .f32⟩ : BufTy).Contents (Elt F) → (⟨S2048x16384, .f32⟩ : BufTy).Contents (Elt F)),
    binary main_v139 main_v140 main_v141 (Host.divf : (⟨S2048x16384, .f32⟩ : BufTy).Contents (Elt F) → (⟨S2048x16384, .f32⟩ : BufTy).Contents (Elt F) → (⟨S2048x16384, .f32⟩ : BufTy).Contents (Elt F)),
    TRef.unary (TRef.of (T := ⟨S2048x16384, .f32⟩) main_v141) (TRef.of (T := ⟨S2048x16384, .f32⟩) main_v142) Host.roundeven,
    nullary main_cst_5 (constant S_ .f32 0x00000000#32),
    nullary main_cst_6 (constant S_ .f32 0x3F800000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S2048x16384, .f32⟩) main_call2_v1) (broadcastInDim S2048x16384 ![] bcast_S_S2048x16384),
    TRef.binary (TRef.of (T := ⟨S2048x16384, .f32⟩) main_call2_v1) (TRef.of (T := ⟨S2048x16384, .f32⟩) main_v142) (TRef.of (T := ⟨S2048x16384, .f32⟩) main_call2_v2) maximumf,
    TRef.unary (TRef.of (T := ⟨S_, .f32⟩) main_cst_6) (TRef.of (T := ⟨S_, .f32⟩) main_call2_v3) id,
    TRef.unary (TRef.of (T := ⟨S_, .f32⟩) main_call2_v3) (TRef.of (T := ⟨S2048x16384, .f32⟩) main_call2_v4) (broadcastInDim S2048x16384 ![] bcast_S_S2048x16384),
    TRef.binary (TRef.of (T := ⟨S2048x16384, .f32⟩) main_call2_v4) (TRef.of (T := ⟨S2048x16384, .f32⟩) main_call2_v2) (TRef.of (T := ⟨S2048x16384, .f32⟩) main_v143) minimumf,
    binary main_v143 main_v141 main_v144 (subf : (⟨S2048x16384, .f32⟩ : BufTy).Contents (Elt F) → (⟨S2048x16384, .f32⟩ : BufTy).Contents (Elt F) → (⟨S2048x16384, .f32⟩ : BufTy).Contents (Elt F)),
    binary main_v141 main_v144 main_v145 (addf : (⟨S2048x16384, .f32⟩ : BufTy).Contents (Elt F) → (⟨S2048x16384, .f32⟩ : BufTy).Contents (Elt F) → (⟨S2048x16384, .f32⟩ : BufTy).Contents (Elt F)) ]

/-- The whole reference: its program is the straight line of these operations. -/
abbrev ops : List (HloOp τ sig (Elt F)) := opsInit ++ (taps 32 0 (by omega) ++ opsEnd)

set_option maxHeartbeats 4000000 in
/-- The reference's program runs these operations in order. -/
theorem main_eq (c : Dev nD) : main (F := F) c = seq ops := rfl

/-- The operations before the steps use the program's own buffers only, and name each result. -/
theorem init_ok : ((opsInit : List (HloOp τ sig (Elt F))).Forall fun op => op.bufs ⊆ tcRefs τ sig) ∧ ∀ op ∈ (opsInit : List (HloOp τ sig (Elt F))), op.fresh = ∅ := by
  refine ⟨by simp, ?_⟩
  intro _ q
  (repeat (cases q with | head => rfl | tail _ q => ?_)); exact nomatch q

/-- The same of one step. -/
theorem tap_ok (k : ℕ) (h : k < 32) : ((tap (F := F) k h).Forall fun op => op.bufs ⊆ tcRefs τ sig) ∧ ∀ op ∈ tap (F := F) k h, op.fresh = ∅ := by
  refine ⟨⟨unary_bufs_sub .., binary_bufs_sub .., binary_bufs_sub .., binary_bufs_sub ..⟩, ?_⟩
  intro _ q
  (repeat (cases q with | head => rfl | tail _ q => ?_)); exact nomatch q

/-- The same of several steps. -/
theorem taps_ok : ∀ (n k : ℕ) (h : k + n ≤ 32),
    ((taps (F := F) n k h).Forall fun op => op.bufs ⊆ tcRefs τ sig) ∧ ∀ op ∈ taps (F := F) n k h, op.fresh = ∅
  | 0, _, _ => ⟨trivial, fun _ h => nomatch h⟩
  | n + 1, k, h => by
    have h1 := tap_ok (F := F) k (by omega)
    have h2 := taps_ok n (k + 1) (by omega)
    refine ⟨List.forall_append.2 ⟨h1.1, h2.1⟩, fun op ho => ?_⟩
    rcases List.mem_append.1 ho with ho | ho
    · exact h1.2 op ho
    · exact h2.2 op ho

/-- The same of the operations after the steps. -/
theorem end_ok : ((opsEnd : List (HloOp τ sig (Elt F))).Forall fun op => op.bufs ⊆ tcRefs τ sig) ∧ ∀ op ∈ (opsEnd : List (HloOp τ sig (Elt F))), op.fresh = ∅ := by
  refine ⟨by simp, ?_⟩
  intro _ q
  (repeat (cases q with | head => rfl | tail _ q => ?_)); exact nomatch q

/-- Every run of the reference ends with each buffer at what the operations, in order, leave in it. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq (by decide) (by decide) defs main (fun _ => ops) main_eq
    (fun _ => List.forall_append.2 ⟨init_ok.1, List.forall_append.2 ⟨(taps_ok 32 0 _).1, end_ok.1⟩⟩) m ρ
    (fun _ op ho => by
      rcases List.mem_append.1 ho with ho | ho
      · exact init_ok.2 op ho
      · rcases List.mem_append.1 ho with ho | ho
        · exact (taps_ok 32 0 _).2 op ho
        · exact end_ok.2 op ho)

end Cert.WindowStd.Ref

end
-- ==== Proof.RefSums.lean ====
/-
  What the 32 steps of the reference leave in the two running sums: the sums of the 32 terms from each position of a row
  on, and of their squares.
-/
module

public import proofs.«01_k».proof.Proof.RefOps
public import proofs.«01_k».proof.Proof.Row

@[expose] public section

set_option maxRecDepth 16384

noncomputable section

open Cert.ReferenceIdeal Cert.ReferenceIdeal.Gen Idealize.ShloMosaic Idealize.ShloMosaic.TcCoe Idealize.SL.Sem
  Idealize.ShloMosaic.StableHlo

namespace Cert.WindowStd.Ref

/-- The sums of `k` consecutive terms of a row, from every position that starts a full window. -/
def sums (x : S2048x16384.Idx → EReal) (k : ℕ) : FVec Ideal S2048x16353 .f32 :=
  fun i => ∑ j ∈ Finset.range k, row x (i 0) ((i 1 : ℕ) + j)

/-- The sums of the squares of those terms. -/
def sqSums (x : S2048x16384.Idx → EReal) (k : ℕ) : FVec Ideal S2048x16353 .f32 :=
  fun i => ∑ j ∈ Finset.range k, row x (i 0) ((i 1 : ℕ) + j) * row x (i 0) ((i 1 : ℕ) + j)

/-- The slice of step `k`, at an index. -/
theorem slice_apply (x : S2048x16384.Idx → EReal) (k : Fin 32) (i : S2048x16353.Idx) :
    extractStridedSlice S2048x16353 ![0, (k : ℕ)] x (slices k) i = row x (i 0) ((i 1 : ℕ) + k) := by
  have hi : (i 1 : ℕ) < 16353 := (i 1).isLt
  have hk := k.isLt
  unfold row
  rw [dif_pos (show (i 1 : ℕ) + k < 16384 by omega)]
  refine congrArg x (funext fun a => Fin.ext ?_)
  match a with
  | ⟨0, _⟩ => exact Nat.zero_add _
  | ⟨1, _⟩ => exact Nat.add_comm _ _

/-- One more slice added to the sums of `k` terms gives the sums of `k + 1` terms. -/
theorem sums_succ (x : S2048x16384.Idx → EReal) (k : Fin 32) :
    addf (sums x k) (extractStridedSlice S2048x16353 ![0, (k : ℕ)] x (slices k)) = sums x (k + 1) := by
  funext i
  show sums x k i + extractStridedSlice S2048x16353 ![0, (k : ℕ)] x (slices k) i = _
  rw [slice_apply]
  exact (Finset.sum_range_succ _ _).symm

/-- The same for the squares. -/
theorem sqSums_succ (x : S2048x16384.Idx → EReal) (k : Fin 32) :
    addf (sqSums x k) (mulf (extractStridedSlice S2048x16353 ![0, (k : ℕ)] x (slices k))
      (extractStridedSlice S2048x16353 ![0, (k : ℕ)] x (slices k)) : FVec Ideal S2048x16353 .f32) = sqSums x (k + 1) := by
  funext i
  show sqSums x k i + extractStridedSlice S2048x16353 ![0, (k : ℕ)] x (slices k) i
    * extractStridedSlice S2048x16353 ![0, (k : ℕ)] x (slices k) i = _
  rw [slice_apply]
  exact (Finset.sum_range_succ _ _).symm

/-- What a one-operand operation leaves in its result buffer. -/
theorem unary_at {A B : BufTy} (a : TRef sig A) (b : TRef sig B) (f : A.Contents (Elt Ideal) → B.Contents (Elt Ideal))
    (V : Valuation τ sig (Elt Ideal)) :
    b.ofBuf ((TRef.unary (τ := τ) a b f).result V (Proc.devRef .tc b.ref)) = f (a.ofBuf (V (Proc.devRef .tc a.ref))) := by
  rw [unary_result, TRef.ofBuf_toBuf]

/-- What a two-operand operation leaves in its result buffer. -/
theorem binary_at {A B C : BufTy} (a : TRef sig A) (b : TRef sig B) (c : TRef sig C)
    (f : A.Contents (Elt Ideal) → B.Contents (Elt Ideal) → C.Contents (Elt Ideal)) (V : Valuation τ sig (Elt Ideal)) :
    c.ofBuf ((TRef.binary (τ := τ) a b c f).result V (Proc.devRef .tc c.ref))
      = f (a.ofBuf (V (Proc.devRef .tc a.ref))) (b.ofBuf (V (Proc.devRef .tc b.ref))) := by
  rw [binary_result, TRef.ofBuf_toBuf]

/-- Buffers with different numbers are different. -/
theorem buf_ne {a b : ℕ} (ha : a < 162) (hb : b < 162) (h : a ≠ b) : buf a ha ≠ buf b hb := by
  intro q
  injection q with _ q
  exact h (by simpa using q)

/-- The contents after `k` steps: the argument, the sums of `k` terms, and the sums of their squares. -/
structure Held (x : S2048x16384.Idx → EReal) (k : ℕ) (h : k < 33) (V : Valuation τ sig (Elt Ideal)) : Prop where
  arg : V (Proc.devRef .tc main_arg0) = x
  sum : (sumRef k h).ofBuf (V (Proc.devRef .tc (sumRef k h).ref)) = sums x k
  sqSum : (sqSumRef k h).ofBuf (V (Proc.devRef .tc (sqSumRef k h).ref)) = sqSums x k

/-- One step takes the sums of `k` terms to the sums of `k + 1` terms. -/
theorem tap_step (x : S2048x16384.Idx → EReal) (k : ℕ) (h : k < 32) (V : Valuation τ sig (Elt Ideal))
    (H : Held x k (by omega) V) : Held x (k + 1) (by omega) (after (tap k h) V) := by
  simp only [tap, after_cons, after_nil]
  generalize e1 : (TRef.unary (τ := τ) Ref.arg (sliceRef k h) (extractStridedSlice S2048x16353 ![0, k] · (slices ⟨k, h⟩))).result V = V1
  have s1 : (sliceRef k h).ofBuf (V1 (Proc.devRef .tc (sliceRef k h).ref)) = extractStridedSlice S2048x16353 ![0, k] x (slices ⟨k, h⟩) := by
    rw [← e1, unary_at]
    show extractStridedSlice S2048x16353 ![0, k] (V (Proc.devRef .tc main_arg0)) (slices ⟨k, h⟩) = _
    rw [H.arg]
  have k1 (n : ℕ) (hn : n < 162) (q : n ≠ 4 * k + 5) : V1 (Proc.devRef .tc (buf n hn)) = V (Proc.devRef .tc (buf n hn)) := by
    rw [← e1]; exact unary_result_ne _ _ _ _ _ _ (buf_ne _ _ q)
  generalize e2 : (TRef.binary (τ := τ) (sumRef k (by omega)) (sliceRef k h) (sumRef (k + 1) (by omega)) (addf (F := Ideal) (s := S2048x16353) (φ := .f32))).result V1 = V2
  have s2 : (sumRef (k + 1) (by omega)).ofBuf (V2 (Proc.devRef .tc (sumRef (k + 1) (by omega)).ref)) = sums x (k + 1) := by
    rw [← e2, binary_at, s1, k1 _ _ (by omega), H.sum]
    exact sums_succ x ⟨k, h⟩
  have k2 (n : ℕ) (hn : n < 162) (q : n ≠ 4 * (k + 1) + 2) : V2 (Proc.devRef .tc (buf n hn)) = V1 (Proc.devRef .tc (buf n hn)) := by
    rw [← e2]; exact binary_result_ne _ _ _ _ _ _ _ _ (buf_ne _ _ q)
  generalize e3 : (TRef.binary (τ := τ) (sliceRef k h) (sliceRef k h) (squareRef k h) (mulf (F := Ideal) (s := S2048x16353) (φ := .f32))).result V2 = V3
  have s3 : (squareRef k h).ofBuf (V3 (Proc.devRef .tc (squareRef k h).ref))
      = mulf (F := Ideal) (s := S2048x16353) (φ := .f32) (extractStridedSlice S2048x16353 ![0, k] x (slices ⟨k, h⟩))
        (extractStridedSlice S2048x16353 ![0, k] x (slices ⟨k, h⟩)) := by
    rw [← e3, binary_at, k2 _ _ (by omega), s1]
  have k3 (n : ℕ) (hn : n < 162) (q : n ≠ 4 * k + 7) : V3 (Proc.devRef .tc (buf n hn)) = V2 (Proc.devRef .tc (buf n hn)) := by
    rw [← e3]; exact binary_result_ne _ _ _ _ _ _ _ _ (buf_ne _ _ q)
  generalize e4 : (TRef.binary (τ := τ) (sqSumRef k (by omega)) (squareRef k h) (sqSumRef (k + 1) (by omega)) (addf (F := Ideal) (s := S2048x16353) (φ := .f32))).result V3 = V4
  have k4 (n : ℕ) (hn : n < 162) (q : n ≠ 4 * (k + 1) + 4) : V4 (Proc.devRef .tc (buf n hn)) = V3 (Proc.devRef .tc (buf n hn)) := by
    rw [← e4]; exact binary_result_ne _ _ _ _ _ _ _ _ (buf_ne _ _ q)
  refine ⟨?_, ?_, ?_⟩
  · show V4 (Proc.devRef .tc (buf 0 (by omega))) = x
    rw [k4 _ _ (by omega), k3 _ _ (by omega), k2 _ _ (by omega), k1 _ _ (by omega)]
    exact H.arg
  · rw [k4 _ _ (by omega), k3 _ _ (by omega)]
    exact s2
  · rw [← e4, binary_at, s3, k3 _ _ (by omega), k2 _ _ (by omega), k1 _ _ (by omega), H.sqSum]
    exact sqSums_succ x ⟨k, h⟩

/-- The `n` steps from step `k` on take the sums of `k` terms to the sums of `k + n` terms. -/
theorem taps_step (x : S2048x16384.Idx → EReal) : ∀ (n k : ℕ) (h : k + n ≤ 32) (V : Valuation τ sig (Elt Ideal)),
    Held x k (by omega) V → Held x (k + n) (by omega) (after (taps n k h) V)
  | 0, _, _, _, H => H
  | n + 1, k, h, V, H => by
    have e : k + (n + 1) = k + 1 + n := by omega
    have := taps_step x n (k + 1) (by omega) _ (tap_step x k (by omega) V H)
    rw [taps, after_append]
    simpa only [e] using this

/-- Before the first step both sums are empty, and the argument is what it was. -/
theorem init_held (x : S2048x16384.Idx → EReal) (V : Valuation τ sig (Elt Ideal)) (hx : V (Proc.devRef .tc main_arg0) = x) :
    Held x 0 (by omega) (after opsInit V) := by
  have z (i : S2048x16353.Idx) : broadcastInDim S2048x16353 ![] bcast_S_S2048x16353 (constant (F := Ideal) S_ .f32 0x00000000#32) i = (0 : EReal) :=
    Ideal.ofBits_zero_f32
  refine ⟨?_, ?_, ?_⟩
  · after_results
    exact hx
  · show after opsInit V (Proc.devRef .tc main_v0) = sums x 0
    after_results
    exact funext z
  · show after opsInit V (Proc.devRef .tc main_v1) = sqSums x 0
    after_results
    exact funext z

/-- The contents after all 32 steps. -/
theorem held (x : S2048x16384.Idx → EReal) (V : Valuation τ sig (Elt Ideal)) (hx : V (Proc.devRef .tc main_arg0) = x) :
    Held x 32 (by omega) (after (taps 32 0 (by omega)) (after opsInit V)) :=
  taps_step x 32 0 (by omega) _ (init_held x V hx)

end Cert.WindowStd.Ref

end
-- ==== Proof.RefTail.lean ====
/-
  What the reference computes after the running sums, at an index: the padded deviation and the hard threshold of it.
-/
module

public import proofs.«01_k».proof.Proof.RefSums
public import proofs.«01_k».proof.Proof.Scalar

@[expose] public section

set_option maxRecDepth 16384

noncomputable section

open Cert.ReferenceIdeal Cert.ReferenceIdeal.Gen Idealize.ShloMosaic Idealize.ShloMosaic.TcCoe Idealize.SL.Sem
  Idealize.ShloMosaic.StableHlo

namespace Cert.WindowStd.Ref

/-- A constant array of the running sums' shape. -/
def fill (w : BitVec 32) : FVec Ideal S2048x16353 .f32 :=
  broadcastInDim S2048x16353 ![] bcast_S_S2048x16353 (constant (F := Ideal) S_ .f32 w)

/-- A constant array of the argument's shape. -/
def fillWide (w : BitVec 32) : FVec Ideal S2048x16384 .f32 :=
  broadcastInDim S2048x16384 ![] bcast_S_S2048x16384 (constant (F := Ideal) S_ .f32 w)

/-- The deviation from the two sums, over the full windows. -/
def narrow (s1 s2 : FVec Ideal S2048x16353 .f32) : FVec Ideal S2048x16353 .f32 :=
  Host.sqrt (maximumf (subf (Host.divf s2 (fill 0x42000000#32))
    (mulf (Host.divf s1 (fill 0x42000000#32)) (Host.divf s1 (fill 0x42000000#32)))) (fill 0x00000000#32))

/-- The deviation padded with zeros to the argument's shape. -/
def padded (s1 s2 : FVec Ideal S2048x16353 .f32) : FVec Ideal S2048x16384 .f32 :=
  pad S2048x16384 ![0, 15] ![0, 16] ![0, 0] (narrow s1 s2) (sitofp (F := Ideal) .f32 (constantI S_ 32 0#32))
    pads_S2048x16353_S2048x16384_000_15160 h_S_

/-- The hard threshold in its straight-through form. -/
def hard (σ : FVec Ideal S2048x16384 .f32) : FVec Ideal S2048x16384 .f32 :=
  addf (Host.divf σ (fillWide 0x400CCCCD#32))
    (subf (minimumf (fillWide 0x3F800000#32) (maximumf (fillWide 0x00000000#32) (Host.roundeven (Host.divf σ (fillWide 0x400CCCCD#32)))))
      (Host.divf σ (fillWide 0x400CCCCD#32)))

/-- The second result of the reference from the two running sums. -/
theorem end_139 (V : Valuation τ sig (Elt Ideal)) (s1 s2 : FVec Ideal S2048x16353 .f32)
    (h1 : V (Proc.devRef .tc main_v127) = s1) (h2 : V (Proc.devRef .tc main_v129) = s2) :
    after opsEnd V (Proc.devRef .tc main_v139) = padded s1 s2 := by
  subst h1 h2
  simp only [opsEnd, TRef.binary, TRef.unary, TRef.toBuf, TRef.ofBuf, cast_eq]
  after_results
  rfl

/-- The first result of the reference from the two running sums. -/
theorem end_145 (V : Valuation τ sig (Elt Ideal)) (s1 s2 : FVec Ideal S2048x16353 .f32)
    (h1 : V (Proc.devRef .tc main_v127) = s1) (h2 : V (Proc.devRef .tc main_v129) = s2) :
    after opsEnd V (Proc.devRef .tc main_v145) = hard (padded s1 s2) := by
  subst h1 h2
  simp only [opsEnd, TRef.binary, TRef.unary, TRef.toBuf, TRef.ofBuf, cast_eq]
  after_results
  rfl

/-- The operations after the steps leave the argument alone. -/
theorem end_arg (V : Valuation τ sig (Elt Ideal)) :
    after opsEnd V (Proc.devRef .tc main_arg0) = V (Proc.devRef .tc main_arg0) := by
  simp only [opsEnd, TRef.binary, TRef.unary, TRef.toBuf, TRef.ofBuf, cast_eq]
  after_results

/-- The deviation over the full windows, at an index. -/
theorem narrow_apply (s1 s2 : FVec Ideal S2048x16353 .f32) (i : S2048x16353.Idx) :
    narrow s1 s2 i = devR (s1 i) (s2 i) := by
  show Ideal.sqrt (max (Ideal.div (s2 i) (Ideal.ofBits .f32 0x42000000#32)
    - Ideal.div (s1 i) (Ideal.ofBits .f32 0x42000000#32) * Ideal.div (s1 i) (Ideal.ofBits .f32 0x42000000#32)) (Ideal.ofBits .f32 0x00000000#32)) = _
  rw [word_32, Ideal.ofBits_zero_f32]
  rfl

/-- The padded deviation, at an index: zero in the first 15 and the last 16 columns. -/
theorem padded_apply (s1 s2 : FVec Ideal S2048x16353 .f32) (b : Fin 2048) (t : Fin 16384) :
    padded s1 s2 (ix2 b t) = if h : 15 ≤ (t : ℕ) ∧ (t : ℕ) < 16368 then
      devR (s1 (ix2 b ⟨(t : ℕ) - 15, by omega⟩)) (s2 (ix2 b ⟨(t : ℕ) - 15, by omega⟩)) else 0 := by
  by_cases h : 15 ≤ (t : ℕ) ∧ (t : ℕ) < 16368
  · rw [dif_pos h, ← narrow_apply]
    unfold padded pad
    rw [dif_pos]
    · refine congrArg (narrow s1 s2) (funext fun a => Fin.ext ?_)
      match a with
      | ⟨0, _⟩ => exact Nat.div_one _
      | ⟨1, _⟩ => exact Nat.div_one _
    · intro a
      match a with
      | ⟨0, _⟩ =>
        show 0 ≤ (b : ℕ) ∧ ((b : ℕ) - 0) % 1 = 0 ∧ ((b : ℕ) - 0) / 1 < 2048
        have := b.isLt
        omega
      | ⟨1, _⟩ =>
        show 15 ≤ (t : ℕ) ∧ ((t : ℕ) - 15) % 1 = 0 ∧ ((t : ℕ) - 15) / 1 < 16353
        omega
  · rw [dif_neg h]
    unfold padded pad
    rw [dif_neg]
    · show ((((0#32 : BitVec 32).toInt : ℤ) : ℝ) : EReal) = 0
      simp
    · intro q
      have q1 : 15 ≤ (t : ℕ) ∧ ((t : ℕ) - 15) % 1 = 0 ∧ ((t : ℕ) - 15) / 1 < 16353 := q 1
      omega

/-- The hard threshold, at an index. -/
theorem hard_apply (σ : FVec Ideal S2048x16384 .f32) (i : S2048x16384.Idx) (r : ℝ) (h : 0 ≤ r) (e : σ i = (r : EReal)) :
    hard σ i = if ((9227469 / 8388608 : ℝ) : EReal) < (r : EReal) then 1 else 0 := by
  show Ideal.div (σ i) (Ideal.ofBits .f32 0x400CCCCD#32)
    + (min (Ideal.ofBits .f32 0x3F800000#32) (max (Ideal.ofBits .f32 0x00000000#32)
        (Ideal.liftRound Ideal.roundHalfEven (Ideal.div (σ i) (Ideal.ofBits .f32 0x400CCCCD#32))))
      - Ideal.div (σ i) (Ideal.ofBits .f32 0x400CCCCD#32)) = _
  rw [e, word_2th, Ideal.ofBits_zero_f32, Ideal.ofBits_one_f32]
  exact hard_eq r h

end Cert.WindowStd.Ref

end
-- ==== Proof.Equation.lean ====
/-
  The reference's two results, index by index, are the kernel's: `devAt` of the row, and its comparison with the threshold.
-/
module

public import proofs.«01_k».proof.Proof.RefTail
public import proofs.«01_k».proof.Proof.Sigma

@[expose] public section

set_option maxRecDepth 16384

noncomputable section

open Idealize.ShloMosaic Idealize.ShloMosaic.TcCoe Idealize.SL.Sem Idealize.ShloMosaic.StableHlo

namespace Cert.WindowStd

/-- The sum of the 32 terms that start 15 before `t` is the window's sum. -/
theorem range_win (g : ℕ → EReal) (t : ℕ) (h : 15 ≤ t) : ∑ j ∈ Finset.range 32, g (t - 15 + j) = win g t := by
  rw [win_eq_fin g t h, ← Fin.sum_univ_eq_sum_range (fun j => g (t - 15 + j)) 32]

/-- The reference's deviation at an index is the kernel's `devAt`, a real number that is not negative. -/
theorem padded_devAt (x : Cert.ReferenceIdeal.S2048x16384.Idx → EReal) (b : Fin 2048) (t : Fin 16384) :
    ∃ r : ℝ, 0 ≤ r ∧ Ref.padded (Ref.sums x 32) (Ref.sqSums x 32) (ix2 b t) = (r : EReal) ∧ devAt (row x b) t = (r : EReal) := by
  by_cases h : 15 ≤ (t : ℕ) ∧ (t : ℕ) < 16368
  · obtain ⟨r, hr, hk, hR⟩ := dev_eq (Finset.Ico ((t : ℕ) - 15) (t + 17)) (row x b)
    refine ⟨r, hr, ?_, ?_⟩
    · rw [Ref.padded_apply, dif_pos h, ← hR]
      exact congrArg₂ devR (range_win (row x b) t h.1) (range_win (fun n => row x b n * row x b n) t h.1)
    · rw [← hk]
      exact if_neg (by omega)
  · refine ⟨0, le_rfl, ?_, ?_⟩
    · rw [Ref.padded_apply, dif_neg h]
      rfl
    · exact if_pos (by omega)

open Cert.ReferenceIdeal in
/-- Every run of the reference ends with its first result at the comparison of each window's deviation with the
    threshold, its second at the deviation, and the argument as it was. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v145) = (fun i : S2048x16384.Idx =>
        if ((9227469 / 8388608 : ℝ) : EReal) < devAt (row (m ((c.tc : Thread nD τ).loc main_arg0)) (i 0)) (i 1 : Fin 16384) then (1 : EReal) else 0)
      ∧ r.2.mem ((c.tc : Thread nD τ).loc main_v139) = (fun i : S2048x16384.Idx =>
        devAt (row (m ((c.tc : Thread nD τ).loc main_arg0)) (i 0)) (i 1 : Fin 16384))
      ∧ r.2.mem ((c.tc : Thread nD τ).loc main_arg0) = m ((c.tc : Thread nD τ).loc main_arg0) := by
  refine (θ_run defs _ _).mono (fun r h c => ?_) (Ref.run_after (F := Ideal) m ρ)
  have H := Ref.held (m ((c.tc : Thread nD τ).loc main_arg0)) (launchContents m c) rfl
  have e (b : Ref sig .tc) : r.2.mem ((c.tc : Thread nD τ).loc b)
      = after Ref.opsEnd (after (Ref.taps 32 0 (by omega)) (after Ref.opsInit (launchContents m c))) (Proc.devRef .tc b) := by
    rw [h c b, Ref.ops, after_append, after_append]
  refine ⟨?_, ?_, ?_⟩
  · rw [e, Ref.end_145 _ _ _ H.sum H.sqSum]
    funext i
    obtain ⟨q, hq, h1, h2⟩ := padded_devAt (m ((c.tc : Thread nD τ).loc main_arg0)) (i 0) (i 1)
    replace h1 := (congrArg (Ref.padded _ _) (eq_ix2 i)).trans h1
    rw [Ref.hard_apply _ i q hq h1, h2]
  · rw [e, Ref.end_139 _ _ _ H.sum H.sqSum]
    funext i
    obtain ⟨q, hq, h1, h2⟩ := padded_devAt (m ((c.tc : Thread nD τ).loc main_arg0)) (i 0) (i 1)
    replace h1 := (congrArg (Ref.padded _ _) (eq_ix2 i)).trans h1
    exact h1.trans h2.symm
  · rw [e, Ref.end_arg]
    exact H.arg

end Cert.WindowStd

end
-- ==== Proof.lean ====
/-
  The five claims: the frames of the kernel, of the kernel over the extended reals and of the reference; that the second
  is the first read over the extended reals; and that it computes the reference's two results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Arrays
public import proofs.«01_k».proof.Proof.Equation

@[expose] public section

noncomputable section

namespace Cert.Proof

open Idealize.ShloMosaic Idealize.SL.Sem

/-- The reference terminates without fault, leaves its argument unchanged and every semaphore counter at zero: it
    declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.WindowStd.reference_run m ρ)

/-- Over the extended reals the kernel's two results are the reference's. -/
theorem algebraic : Cert.algebraic_KernelIdeal_ReferenceIdeal := by
  intro m ρ m' ρ' _ hagree
  refine ⟨_, _, (θ_run Cert.KernelIdeal.defs _ _).mono (fun r h c => ⟨(h c).1.trans (Cert.WindowStd.final4 m c),
    (h c).2.1.trans (Cert.WindowStd.final5 m c), (h c).2.2⟩) (Cert.KernelIdeal.Value.run_blocks (F := Ideal) m ρ), ?_⟩
  refine (θ_run Cert.ReferenceIdeal.defs _ _).mono (fun r h c => ⟨(h c).1.trans ?_, (h c).2.1.trans ?_, (h c).2.2⟩)
    (Cert.WindowStd.reference_run m' ρ')
  · rw [hagree c]
  · rw [hagree c]

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  IdealRules.bf16_pack.statement _, algebraic⟩

end Cert.Proof

end
